-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8192x3 : Shape := ⟨2, ![8192, 3]⟩
abbrev S65536x3 : Shape := ⟨2, ![65536, 3]⟩
abbrev S_ : Shape := ⟨0, ![]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel

variable [Facts]

def fn {F : FTy → Type} [FloatOps F] (main_arg0 : FVec F S8192x3 .f32) (main_arg1 : FVec F S65536x3 .f32) : IVec S_ 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  main_v3
-- ==== Kernel.lean ====
abbrev S8192x3 : Shape := ⟨2, ![8192, 3]⟩
abbrev S65536x3 : Shape := ⟨2, ![65536, 3]⟩
abbrev S3x65536 : Shape := ⟨2, ![3, 65536]⟩
abbrev S4x16384 : Shape := ⟨2, ![4, 16384]⟩
abbrev S4x8x49152 : Shape := ⟨3, ![4, 8, 49152]⟩
abbrev S1x65536 : Shape := ⟨2, ![1, 65536]⟩
abbrev S4x65536 : Shape := ⟨2, ![4, 65536]⟩
abbrev S4x49152 : Shape := ⟨2, ![4, 49152]⟩
abbrev S4x1x49152 : Shape := ⟨3, ![4, 1, 49152]⟩
abbrev S3x8192 : Shape := ⟨2, ![3, 8192]⟩
abbrev S_ : Shape := ⟨0, ![]⟩
abbrev S4x8192 : Shape := ⟨2, ![4, 8192]⟩
abbrev S8192x16 : Shape := ⟨2, ![8192, 16]⟩
abbrev S4x256 : Shape := ⟨2, ![4, 256]⟩
abbrev S256x16 : Shape := ⟨2, ![256, 16]⟩
abbrev S1x16 : Shape := ⟨2, ![1, 16]⟩
abbrev S16 : Shape := ⟨1, ![16]⟩
abbrev S1 : Shape := ⟨1, ![1]⟩
abbrev S8192x1 : Shape := ⟨2, ![8192, 1]⟩
abbrev S1024x3 : Shape := ⟨2, ![1024, 3]⟩
abbrev S1024x1 : Shape := ⟨2, ![1024, 1]⟩
abbrev S1024x128 : Shape := ⟨2, ![1024, 128]⟩
abbrev S8x128 : Shape := ⟨2, ![8, 128]⟩
abbrev S1x8x512 : Shape := ⟨3, ![1, 8, 512]⟩
abbrev S8x512 : Shape := ⟨2, ![8, 512]⟩
abbrev S1024 : Shape := ⟨1, ![1024]⟩
abbrev S1024x16 : Shape := ⟨2, ![1024, 16]⟩

abbrev nBuf : Table → Nat
  | .hbm => 12
  | .local .tc .vmem => 20
  | .local .scVector .vmem => 3
  | _ => 0

abbrev bufTy : (tb : Table) → Fin (nBuf tb) → BufTy
  | .hbm, ⟨0, _⟩ => ⟨S8192x3, .f32⟩
  | .hbm, ⟨1, _⟩ => ⟨S65536x3, .f32⟩
  | .hbm, ⟨2, _⟩ => ⟨S3x65536, .f32⟩
  | .hbm, ⟨3, _⟩ => ⟨S4x16384, .f32⟩
  | .hbm, ⟨4, _⟩ => ⟨S4x8x49152, .f32⟩
  | .hbm, ⟨5, _⟩ => ⟨S3x8192, .f32⟩
  | .hbm, ⟨6, _⟩ => ⟨S_, .i32⟩
  | .hbm, ⟨7, _⟩ => ⟨S_, .f32⟩
  | .hbm, ⟨8, _⟩ => ⟨S4x8192, .f32⟩
  | .hbm, ⟨9, _⟩ => ⟨S8192x16, .f32⟩
  | .hbm, ⟨10, _⟩ => ⟨S8192x1, .f32⟩
  | .hbm, ⟨11, _⟩ => ⟨S8192x1, .f32⟩
  | .local .tc .vmem, ⟨0, _⟩ => ⟨S3x65536, .f32⟩
  | .local .tc .vmem, ⟨1, _⟩ => ⟨S4x16384, .f32⟩
  | .local .tc .vmem, ⟨2, _⟩ => ⟨S4x8x49152, .f32⟩
  | .local .tc .vmem, ⟨3, _⟩ => ⟨S1024x3, .f32⟩
  | .local .tc .vmem, ⟨4, _⟩ => ⟨S1024x3, .f32⟩
  | .local .tc .vmem, ⟨5, _⟩ => ⟨S4x8x49152, .f32⟩
  | .local .tc .vmem, ⟨6, _⟩ => ⟨S1024x1, .f32⟩
  | .local .tc .vmem, ⟨7, _⟩ => ⟨S1024x1, .f32⟩
  | .local .tc .vmem, ⟨8, _⟩ => ⟨S1024x128, .f32⟩
  | .local .tc .vmem, ⟨9, _⟩ => ⟨S1024x128, .f32⟩
  | .local .tc .vmem, ⟨10, _⟩ => ⟨S1024x128, .f32⟩
  | .local .tc .vmem, ⟨11, _⟩ => ⟨S1024x128, .f32⟩
  | .local .tc .vmem, ⟨12, _⟩ => ⟨S1024x3, .f32⟩
  | .local .tc .vmem, ⟨13, _⟩ => ⟨S1024x3, .f32⟩
  | .local .tc .vmem, ⟨14, _⟩ => ⟨S1024x1, .f32⟩
  | .local .tc .vmem, ⟨15, _⟩ => ⟨S1024x1, .f32⟩
  | .local .tc .vmem, ⟨16, _⟩ => ⟨S1024x16, .f32⟩
  | .local .tc .vmem, ⟨17, _⟩ => ⟨S1024x16, .f32⟩
  | .local .tc .vmem, ⟨18, _⟩ => ⟨S1024x1, .f32⟩
  | .local .tc .vmem, ⟨19, _⟩ => ⟨S1024x1, .f32⟩
  | .local .scVector .vmem, ⟨0, _⟩ => ⟨S4x256, .f32⟩
  | .local .scVector .vmem, ⟨1, _⟩ => ⟨S4x16384, .f32⟩
  | .local .scVector .vmem, ⟨2, _⟩ => ⟨S256x16, .f32⟩
  | _, _ => ⟨S8192x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => true
  | ⟨1, _⟩ => true
  | ⟨2, _⟩ => true
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v3_scv : Ref sig .scVector := ⟨.hbm, 8, rfl⟩
abbrev main_v1_0_scv : Ref sig .scVector := ⟨.hbm, 3, rfl⟩
abbrev main_v4_scv : Ref sig .scVector := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc2_stg0_0 : Ref sig .tc := ⟨.vmem, 3, rfl⟩
abbrev cc2_stg0_1 : Ref sig .tc := ⟨.vmem, 4, rfl⟩
abbrev cc2_stg1_0 : Ref sig .tc := ⟨.vmem, 5, rfl⟩
abbrev cc2_stg2_0 : Ref sig .tc := ⟨.vmem, 6, rfl⟩
abbrev cc2_stg2_1 : Ref sig .tc := ⟨.vmem, 7, rfl⟩
abbrev cc2_scratch0 : Ref sig .tc := ⟨.vmem, 8, rfl⟩
abbrev cc2_scratch1 : Ref sig .tc := ⟨.vmem, 9, rfl⟩
abbrev cc2_scratch2 : Ref sig .tc := ⟨.vmem, 10, rfl⟩
abbrev cc2_scratch3 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc3_stg2_0 : Ref sig .tc := ⟨.vmem, 16, rfl⟩
abbrev cc3_stg2_1 : Ref sig .tc := ⟨.vmem, 17, rfl⟩
abbrev cc3_stg3_0 : Ref sig .tc := ⟨.vmem, 18, rfl⟩
abbrev cc3_stg3_1 : Ref sig .tc := ⟨.vmem, 19, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem2_0 : DmaSem sig := 2
abbrev cc2_sem0_0 : DmaSem sig := 6
abbrev cc2_sem0_1 : DmaSem sig := 7
abbrev cc2_sem1_0 : DmaSem sig := 8
abbrev cc2_sem2_0 : DmaSem sig := 9
abbrev cc2_sem2_1 : DmaSem sig := 10
abbrev cc3_sem0_0 : DmaSem sig := 11
abbrev cc3_sem0_1 : DmaSem sig := 12
abbrev cc3_sem1_0 : DmaSem sig := 13
abbrev cc3_sem1_1 : DmaSem sig := 14
abbrev cc3_sem2_0 : DmaSem sig := 15
abbrev cc3_sem2_1 : DmaSem sig := 16
abbrev cc3_sem3_0 : DmaSem sig := 17
abbrev cc3_sem3_1 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S3x65536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x8x49152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![2, 16], ![false, false]⟩

def k1_off1 (i : grid1.Coords) : Fin 2 → Nat :=
  let c0_i32_2_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![0, v2.toNat]
@[reducible] def k1_t1_loop : Scf.Loop 32 :=
  let c0_i32_0 : BitVec 32 := 0#32
  let c16_i32 : BitVec 32 := 16#32
  let v3 : BitVec 32 := Scalar.addi c0_i32_0 c16_i32
  let c1_i32 : BitVec 32 := 1#32
  ⟨c0_i32_0, v3, c1_i32⟩
def k1_off2 (k1_t1 : Fin k1_t1_loop.trips) : Fin 2 → Nat :=
  let c0_i32_3 : BitVec 32 := 0#32
  let v6 : Index := Scalar.indexCast c0_i32_3
  let c0_i32_0 : BitVec 32 := 0#32
  let c1_i32 : BitVec 32 := 1#32
  let arg8 : BitVec 32 := Scf.iv c0_i32_0 c1_i32 k1_t1
  let c16_i32_2 : BitVec 32 := 16#32
  let v5 : BitVec 32 := Scalar.muli arg8 c16_i32_2
  let v7 : Index := Scalar.indexCast v5
  ![0, v7.toNat]
def k1_off3 (k1_t1 : Fin k1_t1_loop.trips) : Fin 2 → Nat :=
  let c1_i32_4 : BitVec 32 := 1#32
  let v10 : Index := Scalar.indexCast c1_i32_4
  let c0_i32_0 : BitVec 32 := 0#32
  let c1_i32 : BitVec 32 := 1#32
  let arg8 : BitVec 32 := Scf.iv c0_i32_0 c1_i32 k1_t1
  let c16_i32_2 : BitVec 32 := 16#32
  let v5 : BitVec 32 := Scalar.muli arg8 c16_i32_2
  let v11 : Index := Scalar.indexCast v5
  ![1, v11.toNat]
def k1_off4 (k1_t1 : Fin k1_t1_loop.trips) : Fin 2 → Nat :=
  let c2_i32_5 : BitVec 32 := 2#32
  let v14 : Index := Scalar.indexCast c2_i32_5
  let c0_i32_0 : BitVec 32 := 0#32
  let c1_i32 : BitVec 32 := 1#32
  let arg8 : BitVec 32 := Scf.iv c0_i32_0 c1_i32 k1_t1
  let c16_i32_2 : BitVec 32 := 16#32
  let v5 : BitVec 32 := Scalar.muli arg8 c16_i32_2
  let v15 : Index := Scalar.indexCast v5
  ![2, v15.toNat]
@[reducible] def k1_t2_loop : Scf.Loop 32 :=
  let c0_i32_6 : BitVec 32 := 0#32
  let c1024_i32 : BitVec 32 := 1024#32
  let v55 : BitVec 32 := Scalar.addi c0_i32_6 c1024_i32
  let c1_i32_7 : BitVec 32 := 1#32
  ⟨c0_i32_6, v55, c1_i32_7⟩
def k1_off5 (k1_t2 : Fin k1_t2_loop.trips) : Fin 2 → Nat :=
  let c0_i32_85 : BitVec 32 := 0#32
  let v287 : Index := Scalar.indexCast c0_i32_85
  let c0_i32_6 : BitVec 32 := 0#32
  let c1_i32_7 : BitVec 32 := 1#32
  let arg10 : BitVec 32 := Scf.iv c0_i32_6 c1_i32_7 k1_t2
  let c16_i32_84 : BitVec 32 := 16#32
  let v286 : BitVec 32 := Scalar.muli arg10 c16_i32_84
  let v288 : Index := Scalar.indexCast v286
  ![0, v288.toNat]
def k1_off6 (k1_t2 : Fin k1_t2_loop.trips) : Fin 2 → Nat :=
  let c1_i32_86 : BitVec 32 := 1#32
  let v291 : Index := Scalar.indexCast c1_i32_86
  let c0_i32_6 : BitVec 32 := 0#32
  let c1_i32_7 : BitVec 32 := 1#32
  let arg10 : BitVec 32 := Scf.iv c0_i32_6 c1_i32_7 k1_t2
  let c16_i32_84 : BitVec 32 := 16#32
  let v286 : BitVec 32 := Scalar.muli arg10 c16_i32_84
  let v292 : Index := Scalar.indexCast v286
  ![1, v292.toNat]
def k1_off7 (k1_t2 : Fin k1_t2_loop.trips) : Fin 2 → Nat :=
  let c2_i32_87 : BitVec 32 := 2#32
  let v295 : Index := Scalar.indexCast c2_i32_87
  let c0_i32_6 : BitVec 32 := 0#32
  let c1_i32_7 : BitVec 32 := 1#32
  let arg10 : BitVec 32 := Scf.iv c0_i32_6 c1_i32_7 k1_t2
  let c16_i32_84 : BitVec 32 := 16#32
  let v286 : BitVec 32 := Scalar.muli arg10 c16_i32_84
  let v296 : Index := Scalar.indexCast v286
  ![2, v296.toNat]
def k1_off8 (k1_t2 : Fin k1_t2_loop.trips) : Fin 2 → Nat :=
  let c3_i32_88 : BitVec 32 := 3#32
  let v299 : Index := Scalar.indexCast c3_i32_88
  let c0_i32_6 : BitVec 32 := 0#32
  let c1_i32_7 : BitVec 32 := 1#32
  let arg10 : BitVec 32 := Scf.iv c0_i32_6 c1_i32_7 k1_t2
  let c16_i32_84 : BitVec 32 := 16#32
  let v286 : BitVec 32 := Scalar.muli arg10 c16_i32_84
  let v300 : Index := Scalar.indexCast v286
  ![3, v300.toNat]
def k1_off9 (k1_t1 : Fin k1_t1_loop.trips) (c0_i32_10 : BitVec 32) (c0_i32_11 : BitVec 32) : Fin 2 → Nat :=
  let c0_i32_0 : BitVec 32 := 0#32
  let c1_i32 : BitVec 32 := 1#32
  let arg8 : BitVec 32 := Scf.iv c0_i32_0 c1_i32 k1_t1
  let c16_i32_9 : BitVec 32 := 16#32
  let v57 : BitVec 32 := Scalar.muli arg8 c16_i32_9
  let v58 : BitVec 32 := Scalar.addi v57 c0_i32_10
  let v59 : BitVec 32 := Scalar.addi v58 c0_i32_11
  let v60 : Index := Scalar.indexCast v59
  let c0 : Index := 0#32
  ![v60.toNat, 0]
@[reducible] def k1_t3_loop : Scf.Loop 32 :=
  let c0_i32_24 : BitVec 32 := 0#32
  let c1024_i32_25 : BitVec 32 := 1024#32
  let v122 : BitVec 32 := Scalar.addi c0_i32_24 c1024_i32_25
  let c1_i32_26 : BitVec 32 := 1#32
  ⟨c0_i32_24, v122, c1_i32_26⟩
def k1_off10 (k1_t3 : Fin k1_t3_loop.trips) : Fin 2 → Nat :=
  let c0_i32_85 : BitVec 32 := 0#32
  let v287 : Index := Scalar.indexCast c0_i32_85
  let c0_i32_24 : BitVec 32 := 0#32
  let c1_i32_26 : BitVec 32 := 1#32
  let arg10 : BitVec 32 := Scf.iv c0_i32_24 c1_i32_26 k1_t3
  let c16_i32_84 : BitVec 32 := 16#32
  let v286 : BitVec 32 := Scalar.muli arg10 c16_i32_84
  let v288 : Index := Scalar.indexCast v286
  ![0, v288.toNat]
def k1_off11 (k1_t3 : Fin k1_t3_loop.trips) : Fin 2 → Nat :=
  let c1_i32_86 : BitVec 32 := 1#32
  let v291 : Index := Scalar.indexCast c1_i32_86
  let c0_i32_24 : BitVec 32 := 0#32
  let c1_i32_26 : BitVec 32 := 1#32
  let arg10 : BitVec 32 := Scf.iv c0_i32_24 c1_i32_26 k1_t3
  let c16_i32_84 : BitVec 32 := 16#32
  let v286 : BitVec 32 := Scalar.muli arg10 c16_i32_84
  let v292 : Index := Scalar.indexCast v286
  ![1, v292.toNat]
def k1_off12 (k1_t3 : Fin k1_t3_loop.trips) : Fin 2 → Nat :=
  let c2_i32_87 : BitVec 32 := 2#32
  let v295 : Index := Scalar.indexCast c2_i32_87
  let c0_i32_24 : BitVec 32 := 0#32
  let c1_i32_26 : BitVec 32 := 1#32
  let arg10 : BitVec 32 := Scf.iv c0_i32_24 c1_i32_26 k1_t3
  let c16_i32_84 : BitVec 32 := 16#32
  let v286 : BitVec 32 := Scalar.muli arg10 c16_i32_84
  let v296 : Index := Scalar.indexCast v286
  ![2, v296.toNat]
def k1_off13 (k1_t3 : Fin k1_t3_loop.trips) : Fin 2 → Nat :=
  let c3_i32_88 : BitVec 32 := 3#32
  let v299 : Index := Scalar.indexCast c3_i32_88
  let c0_i32_24 : BitVec 32 := 0#32
  let c1_i32_26 : BitVec 32 := 1#32
  let arg10 : BitVec 32 := Scf.iv c0_i32_24 c1_i32_26 k1_t3
  let c16_i32_84 : BitVec 32 := 16#32
  let v286 : BitVec 32 := Scalar.muli arg10 c16_i32_84
  let v300 : Index := Scalar.indexCast v286
  ![3, v300.toNat]
@[reducible] def k1_t4_loop : Scf.Loop 32 :=
  let c0_i32_44 : BitVec 32 := 0#32
  let c1024_i32_45 : BitVec 32 := 1024#32
  let v189 : BitVec 32 := Scalar.addi c0_i32_44 c1024_i32_45
  let c1_i32_46 : BitVec 32 := 1#32
  ⟨c0_i32_44, v189, c1_i32_46⟩
def k1_off14 (k1_t4 : Fin k1_t4_loop.trips) : Fin 2 → Nat :=
  let c0_i32_85 : BitVec 32 := 0#32
  let v287 : Index := Scalar.indexCast c0_i32_85
  let c0_i32_44 : BitVec 32 := 0#32
  let c1_i32_46 : BitVec 32 := 1#32
  let arg10 : BitVec 32 := Scf.iv c0_i32_44 c1_i32_46 k1_t4
  let c16_i32_84 : BitVec 32 := 16#32
  let v286 : BitVec 32 := Scalar.muli arg10 c16_i32_84
  let v288 : Index := Scalar.indexCast v286
  ![0, v288.toNat]
def k1_off15 (k1_t4 : Fin k1_t4_loop.trips) : Fin 2 → Nat :=
  let c1_i32_86 : BitVec 32 := 1#32
  let v291 : Index := Scalar.indexCast c1_i32_86
  let c0_i32_44 : BitVec 32 := 0#32
  let c1_i32_46 : BitVec 32 := 1#32
  let arg10 : BitVec 32 := Scf.iv c0_i32_44 c1_i32_46 k1_t4
  let c16_i32_84 : BitVec 32 := 16#32
  let v286 : BitVec 32 := Scalar.muli arg10 c16_i32_84
  let v292 : Index := Scalar.indexCast v286
  ![1, v292.toNat]
def k1_off16 (k1_t4 : Fin k1_t4_loop.trips) : Fin 2 → Nat :=
  let c2_i32_87 : BitVec 32 := 2#32
  let v295 : Index := Scalar.indexCast c2_i32_87
  let c0_i32_44 : BitVec 32 := 0#32
  let c1_i32_46 : BitVec 32 := 1#32
  let arg10 : BitVec 32 := Scf.iv c0_i32_44 c1_i32_46 k1_t4
  let c16_i32_84 : BitVec 32 := 16#32
  let v286 : BitVec 32 := Scalar.muli arg10 c16_i32_84
  let v296 : Index := Scalar.indexCast v286
  ![2, v296.toNat]
def k1_off17 (k1_t4 : Fin k1_t4_loop.trips) : Fin 2 → Nat :=
  let c3_i32_88 : BitVec 32 := 3#32
  let v299 : Index := Scalar.indexCast c3_i32_88
  let c0_i32_44 : BitVec 32 := 0#32
  let c1_i32_46 : BitVec 32 := 1#32
  let arg10 : BitVec 32 := Scf.iv c0_i32_44 c1_i32_46 k1_t4
  let c16_i32_84 : BitVec 32 := 16#32
  let v286 : BitVec 32 := Scalar.muli arg10 c16_i32_84
  let v300 : Index := Scalar.indexCast v286
  ![3, v300.toNat]
@[reducible] def k1_t5_loop : Scf.Loop 32 :=
  let c0_i32_64 : BitVec 32 := 0#32
  let c1024_i32_65 : BitVec 32 := 1024#32
  let v256 : BitVec 32 := Scalar.addi c0_i32_64 c1024_i32_65
  let c1_i32_66 : BitVec 32 := 1#32
  ⟨c0_i32_64, v256, c1_i32_66⟩
def k1_off18 (k1_t5 : Fin k1_t5_loop.trips) : Fin 2 → Nat :=
  let c0_i32_85 : BitVec 32 := 0#32
  let v287 : Index := Scalar.indexCast c0_i32_85
  let c0_i32_64 : BitVec 32 := 0#32
  let c1_i32_66 : BitVec 32 := 1#32
  let arg10 : BitVec 32 := Scf.iv c0_i32_64 c1_i32_66 k1_t5
  let c16_i32_84 : BitVec 32 := 16#32
  let v286 : BitVec 32 := Scalar.muli arg10 c16_i32_84
  let v288 : Index := Scalar.indexCast v286
  ![0, v288.toNat]
def k1_off19 (k1_t5 : Fin k1_t5_loop.trips) : Fin 2 → Nat :=
  let c1_i32_86 : BitVec 32 := 1#32
  let v291 : Index := Scalar.indexCast c1_i32_86
  let c0_i32_64 : BitVec 32 := 0#32
  let c1_i32_66 : BitVec 32 := 1#32
  let arg10 : BitVec 32 := Scf.iv c0_i32_64 c1_i32_66 k1_t5
  let c16_i32_84 : BitVec 32 := 16#32
  let v286 : BitVec 32 := Scalar.muli arg10 c16_i32_84
  let v292 : Index := Scalar.indexCast v286
  ![1, v292.toNat]
def k1_off20 (k1_t5 : Fin k1_t5_loop.trips) : Fin 2 → Nat :=
  let c2_i32_87 : BitVec 32 := 2#32
  let v295 : Index := Scalar.indexCast c2_i32_87
  let c0_i32_64 : BitVec 32 := 0#32
  let c1_i32_66 : BitVec 32 := 1#32
  let arg10 : BitVec 32 := Scf.iv c0_i32_64 c1_i32_66 k1_t5
  let c16_i32_84 : BitVec 32 := 16#32
  let v286 : BitVec 32 := Scalar.muli arg10 c16_i32_84
  let v296 : Index := Scalar.indexCast v286
  ![2, v296.toNat]
def k1_off21 (k1_t5 : Fin k1_t5_loop.trips) : Fin 2 → Nat :=
  let c3_i32_88 : BitVec 32 := 3#32
  let v299 : Index := Scalar.indexCast c3_i32_88
  let c0_i32_64 : BitVec 32 := 0#32
  let c1_i32_66 : BitVec 32 := 1#32
  let arg10 : BitVec 32 := Scf.iv c0_i32_64 c1_i32_66 k1_t5
  let c16_i32_84 : BitVec 32 := 16#32
  let v286 : BitVec 32 := Scalar.muli arg10 c16_i32_84
  let v300 : Index := Scalar.indexCast v286
  ![3, v300.toNat]
def k1_off22 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_2_r2 : BitVec 32 := 0#32
  ![v2.toNat, 0]
abbrev grid2 : Pipeline.Grid := ⟨1, ![8], ![false]⟩

@[reducible] def k2_t1_loop : Scf.Loop 32 :=
  let c0_i32 : BitVec 32 := 0#32
  let c64_i32 : BitVec 32 := 64#32
  let v23 : BitVec 32 := Scalar.addi c0_i32 c64_i32
  let c1_i32 : BitVec 32 := 1#32
  ⟨c0_i32, v23, c1_i32⟩
def k2_off1 (k2_t1 : Fin k2_t1_loop.trips) (c0_i32_15 : BitVec 32) : Fin 2 → Nat :=
  let c0_i32 : BitVec 32 := 0#32
  let c1_i32 : BitVec 32 := 1#32
  let arg8 : BitVec 32 := Scf.iv c0_i32 c1_i32 k2_t1
  let c16_i32 : BitVec 32 := 16#32
  let v29 : BitVec 32 := Scalar.muli arg8 c16_i32
  let v30 : BitVec 32 := Scalar.addi v29 c0_i32_15
  let v31 : Index := Scalar.indexCast v30
  let c0_16 : Index := 0#32
  ![v31.toNat, 0]
@[reducible] def k2_t2_loop : Scf.Loop 32 :=
  let c0_i32_23 : BitVec 32 := 0#32
  let c96_i32 : BitVec 32 := 96#32
  let v45 : BitVec 32 := Scalar.addi c0_i32_23 c96_i32
  let c1_i32_24 : BitVec 32 := 1#32
  ⟨c0_i32_23, v45, c1_i32_24⟩
def k2_off2 (k2_t2 : Fin k2_t2_loop.trips) : Fin 3 → Nat :=
  let c0_30 : Index := 0#32
  let c0_31 : Index := 0#32
  let c0_i32_23 : BitVec 32 := 0#32
  let c1_i32_24 : BitVec 32 := 1#32
  let arg9 : BitVec 32 := Scf.iv c0_i32_23 c1_i32_24 k2_t2
  let c512_i32 : BitVec 32 := 512#32
  let v57 : BitVec 32 := Scalar.muli arg9 c512_i32
  let v58 : Index := Scalar.indexCast v57
  ![0, 0, v58.toNat]
def k2_off3 (k2_t2 : Fin k2_t2_loop.trips) : Fin 3 → Nat :=
  let c1 : Index := 1#32
  let c0_32 : Index := 0#32
  let c0_i32_23 : BitVec 32 := 0#32
  let c1_i32_24 : BitVec 32 := 1#32
  let arg9 : BitVec 32 := Scf.iv c0_i32_23 c1_i32_24 k2_t2
  let c512_i32 : BitVec 32 := 512#32
  let v57 : BitVec 32 := Scalar.muli arg9 c512_i32
  let v61 : Index := Scalar.indexCast v57
  ![1, 0, v61.toNat]
def k2_off4 (k2_t2 : Fin k2_t2_loop.trips) : Fin 3 → Nat :=
  let c2 : Index := 2#32
  let c0_33 : Index := 0#32
  let c0_i32_23 : BitVec 32 := 0#32
  let c1_i32_24 : BitVec 32 := 1#32
  let arg9 : BitVec 32 := Scf.iv c0_i32_23 c1_i32_24 k2_t2
  let c512_i32 : BitVec 32 := 512#32
  let v57 : BitVec 32 := Scalar.muli arg9 c512_i32
  let v64 : Index := Scalar.indexCast v57
  ![2, 0, v64.toNat]
def k2_off5 (k2_t2 : Fin k2_t2_loop.trips) : Fin 3 → Nat :=
  let c3 : Index := 3#32
  let c0_34 : Index := 0#32
  let c0_i32_23 : BitVec 32 := 0#32
  let c1_i32_24 : BitVec 32 := 1#32
  let arg9 : BitVec 32 := Scf.iv c0_i32_23 c1_i32_24 k2_t2
  let c512_i32 : BitVec 32 := 512#32
  let v57 : BitVec 32 := Scalar.muli arg9 c512_i32
  let v67 : Index := Scalar.indexCast v57
  ![3, 0, v67.toNat]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x3 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x8x49152 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x3 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1024x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x3 : Shape := ⟨2, ![8192, 3]⟩
abbrev S65536x3 : Shape := ⟨2, ![65536, 3]⟩
abbrev S8x1024x3 : Shape := ⟨3, ![8, 1024, 3]⟩
abbrev S_ : Shape := ⟨0, ![]⟩
abbrev S8x1024 : Shape := ⟨2, ![8, 1024]⟩
abbrev S1x1024x3 : Shape := ⟨3, ![1, 1024, 3]⟩
abbrev S1024x3 : Shape := ⟨2, ![1024, 3]⟩
abbrev S1024x1x3 : Shape := ⟨3, ![1024, 1, 3]⟩
abbrev S1x65536x3 : Shape := ⟨3, ![1, 65536, 3]⟩
abbrev S1024x65536x3 : Shape := ⟨3, ![1024, 65536, 3]⟩
abbrev S1024x65536 : Shape := ⟨2, ![1024, 65536]⟩
abbrev S1024 : Shape := ⟨1, ![1024]⟩
abbrev S1x1024 : Shape := ⟨2, ![1, 1024]⟩
abbrev S8192x1 : Shape := ⟨2, ![8192, 1]⟩

abbrev nBuf : Space → Nat
  | .hbm => 36
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S65536x3, .f32⟩
  | .hbm, ⟨2, _⟩ => ⟨S8x1024x3, .f32⟩
  | .hbm, ⟨3, _⟩ => ⟨S_, .f32⟩
  | .hbm, ⟨4, _⟩ => ⟨S8x1024, .f32⟩
  | .hbm, ⟨5, _⟩ => ⟨S_, .i32⟩
  | .hbm, ⟨6, _⟩ => ⟨S8x1024x3, .f32⟩
  | .hbm, ⟨7, _⟩ => ⟨S65536x3, .f32⟩
  | .hbm, ⟨8, _⟩ => ⟨S_, .i32⟩
  | .hbm, ⟨9, _⟩ => ⟨S8x1024, .f32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S1x1024x3, .f32⟩
  | .hbm, ⟨15, _⟩ => ⟨S1024x3, .f32⟩
  | .hbm, ⟨16, _⟩ => ⟨S1024x1x3, .f32⟩
  | .hbm, ⟨17, _⟩ => ⟨S1x65536x3, .f32⟩
  | .hbm, ⟨18, _⟩ => ⟨S1024x65536x3, .f32⟩
  | .hbm, ⟨19, _⟩ => ⟨S1024x65536x3, .f32⟩
  | .hbm, ⟨20, _⟩ => ⟨S1024x65536x3, .f32⟩
  | .hbm, ⟨21, _⟩ => ⟨S1024x65536x3, .f32⟩
  | .hbm, ⟨22, _⟩ => ⟨S_, .f32⟩
  | .hbm, ⟨23, _⟩ => ⟨S1024x65536, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S_, .i32⟩
  | .hbm, ⟨28, _⟩ => ⟨S8x1024, .f32⟩
  | .hbm, ⟨29, _⟩ => ⟨S_, .i32⟩
  | .hbm, ⟨30, _⟩ => ⟨S_, .i32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_while0c_c_4 : Ref sig .tc := ⟨.hbm, 10, rfl⟩
abbrev main_while0c_v7 : Ref sig .tc := ⟨.hbm, 11, rfl⟩
abbrev main_while0b_call0_c : Ref sig .tc := ⟨.hbm, 12, rfl⟩
abbrev main_while0b_call0_c_0 : Ref sig .tc := ⟨.hbm, 13, rfl⟩
abbrev main_while0b_call0_v0 : Ref sig .tc := ⟨.hbm, 14, rfl⟩
abbrev main_while0b_v7 : Ref sig .tc := ⟨.hbm, 15, rfl⟩
abbrev main_while0b_v8 : Ref sig .tc := ⟨.hbm, 16, rfl⟩
abbrev main_while0b_v9 : Ref sig .tc := ⟨.hbm, 17, rfl⟩
abbrev main_while0b_v10 : Ref sig .tc := ⟨.hbm, 18, rfl⟩
abbrev main_while0b_v11 : Ref sig .tc := ⟨.hbm, 19, rfl⟩
abbrev main_while0b_v12 : Ref sig .tc := ⟨.hbm, 20, rfl⟩
abbrev main_while0b_v13 : Ref sig .tc := ⟨.hbm, 21, rfl⟩
abbrev main_while0b_cst_4 : Ref sig .tc := ⟨.hbm, 22, rfl⟩
abbrev main_while0b_v14 : Ref sig .tc := ⟨.hbm, 23, rfl⟩
abbrev main_while0b_cst_5 : Ref sig .tc := ⟨.hbm, 24, rfl⟩
abbrev main_while0b_v15 : Ref sig .tc := ⟨.hbm, 25, rfl⟩
abbrev main_while0b_call1_v0 : Ref sig .tc := ⟨.hbm, 26, rfl⟩
abbrev main_while0b_call1_c : Ref sig .tc := ⟨.hbm, 27, rfl⟩
abbrev main_while0b_v16 : Ref sig .tc := ⟨.hbm, 28, rfl⟩
abbrev main_while0b_c_6 : Ref sig .tc := ⟨.hbm, 29, rfl⟩
abbrev main_while0b_v17 : Ref sig .tc := ⟨.hbm, 30, rfl⟩
abbrev main_v3 : Ref sig .tc := ⟨.hbm, 31, rfl⟩
abbrev main_v4 : Ref sig .tc := ⟨.hbm, 32, rfl⟩
abbrev main_cst_0 : Ref sig .tc := ⟨.hbm, 33, rfl⟩
abbrev main_v5 : Ref sig .tc := ⟨.hbm, 34, rfl⟩
abbrev main_v6 : Ref sig .tc := ⟨.hbm, 35, rfl⟩

abbrev nD : Nat := 1
abbrev τ : Topo := Topo.v7x

variable {F : FTy → Type} [FloatOps F]

abbrev main_while0_count : Scf.Loop 32 := ⟨0#32, 8#32, 1#32⟩
-- ==== Proof.KI.Setup.lean ====
/-
  What the kernel's modules share: the program as the launch theorem sees it, the resource algebra (the handshakes'
  rounds, the pipelines' rounds, the transfers' counters), and the names of the buffers.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The kernels' labels under the family of pipelines. -/
abbrev ΛP [FloatOps F] : Labels := Pipeline.Sig Λ₀ (Fin 3) fun p => (pcfgs (F := F) p).Adm

/-- The one SparseCore call. -/
abbrev K [FloatOps F] : SparseCore.Cfg τ sig (ΛP (F := F)) 1 := sc (F := F)

/-- The pipelines' table over the kernels'. -/
abbrev D [FloatOps F] : Defs nD τ sig (Elt F) (ΛP (F := F)) := Pipeline.defs pcfgs defs₀

abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The pipelines' rounds. -/
abbrev UP : Type := UR sig nD τ
/-- Both, and the counters of the tiles' transfers. -/
abbrev UU : Type := UH × (UP × Counters)

local notation "𝕄" => MT nD τ sig (HIx 1) (Elt F) ℕ UU ℕ

abbrev EH : Emb UH (MT nD τ sig (HIx 1) (Elt F) ℕ UU ℕ) := embL

/-- The pipelines' rounds inside the whole algebra. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

/-! ## The buffers -/

abbrev xtLoc (d : Dev nD) : Loc nD τ sig := (SparseCore.T d).loc main_v3
abbrev opLoc (d : Dev nD) : Loc nD τ sig := (SparseCore.T d).loc main_v1_0
abbrev usLoc (d : Dev nD) : Loc nD τ sig := (SparseCore.T d).loc main_v4

end Cert.Proof.KI

end
-- ==== Proof.KI.Spec.lean ====
/-
  What the kernel computes, as functions: the running maximum of `x0·p0 + (x1·p1 + (x2·p2 + p3))` over a sequence of
  packed points.
-/
module

public import proofs.«01_k».proof.Proof.KI.Setup
public import Idealize.ShloMosaic.Lib.ValueLayout

@[expose] public section

noncomputable section

namespace Cert.Proof.KI

open Cert.KernelIdeal Cert.KernelIdeal.Gen
open Idealize.ShloMosaic Idealize.ShloMosaic.ValueIdx

variable {F : FTy → Type} [FloatOps F]

/-- One point's value for one query: `x0·p0 + (x1·p1 + (x2·p2 + p3))`. -/
def uval (x : Fin 3 → F .f32) (p : Fin 4 → F .f32) : F .f32 :=
  FloatOps.addf (FloatOps.mulf (x 0) (p 0)) (FloatOps.addf (FloatOps.mulf (x 1) (p 1)) (FloatOps.addf (FloatOps.mulf (x 2) (p 2)) (p 3)))

/-- The maximum of the values of the first `n` points of a sequence, from −∞. -/
def best (x : Fin 3 → F .f32) (p : ℕ → Fin 4 → F .f32) : ℕ → F .f32
  | 0 => Scalar.ofBits .f32 0xFF800000#32
  | n + 1 => FloatOps.maximumf (best x p n) (uval x (p n))

/-- Element `(c, n)` of a table of packed points, `n` any number. -/
def pt4 {w : ℕ} [NeZero w] (f : (⟨2, ![4, w]⟩ : Shape).Idx → F .f32) (c : Fin 4) (n : ℕ) : F .f32 := f (ix2 c (Fin.ofNat w n))

/-- The points lane `l` of the tile kernel sees: columns `l`, `16 + l`, `32 + l`, … -/
def lanePts (f : S4x16384.Idx → F .f32) (l : ℕ) : ℕ → Fin 4 → F .f32 := fun n c => pt4 (w := 16384) f c (16 * n + l)

/-- A query's coordinates: the first three of its padded column. -/
def xcol {w : ℕ} [NeZero w] (f : (⟨2, ![4, w]⟩ : Shape).Idx → F .f32) (r : ℕ) : Fin 3 → F .f32 := fun c => pt4 (w := w) f c.castSucc r

/-- Entry `(r, l)` of a tile's result: the maximum over the lane's points. -/
def tileMax {w : ℕ} [NeZero w] (fx : (⟨2, ![4, w]⟩ : Shape).Idx → F .f32) (fp : S4x16384.Idx → F .f32) (r l : ℕ) : F .f32 :=
  best (xcol (w := w) fx r) (lanePts fp l) 1024

theorem trips1 : k1_t1_loop.trips = 16 := by decide +kernel
theorem trips2 : k1_t2_loop.trips = 1024 := by decide +kernel

theorem off2_eq : ∀ k : Fin k1_t1_loop.trips, k1_off2 k = ![0, 16 * k.val] := by decide +kernel
theorem off3_eq : ∀ k : Fin k1_t1_loop.trips, k1_off3 k = ![1, 16 * k.val] := by decide +kernel
theorem off4_eq : ∀ k : Fin k1_t1_loop.trips, k1_off4 k = ![2, 16 * k.val] := by decide +kernel
theorem off5_eq : ∀ k : Fin k1_t2_loop.trips, k1_off5 k = ![0, 16 * k.val] := by decide +kernel
theorem off6_eq : ∀ k : Fin k1_t2_loop.trips, k1_off6 k = ![1, 16 * k.val] := by decide +kernel
theorem off7_eq : ∀ k : Fin k1_t2_loop.trips, k1_off7 k = ![2, 16 * k.val] := by decide +kernel
theorem off8_eq : ∀ k : Fin k1_t2_loop.trips, k1_off8 k = ![3, 16 * k.val] := by decide +kernel
theorem off9_eq : ∀ (k : Fin k1_t1_loop.trips) (a b : Fin 4), k1_off9 k (BitVec.ofNat 32 (4 * a.val)) (BitVec.ofNat 32 b.val) = ![16 * k.val + 4 * a.val + b.val, 0] := by decide +kernel
theorem off1_eq : ∀ i : grid1.Coords, k1_off1 i = ![0, (2 * (i 1).val + (i 0).val) * 256] := by decide +kernel
theorem off22_eq : ∀ i : grid1.Coords, k1_off22 i = ![(2 * (i 1).val + (i 0).val) * 256, 0] := by decide +kernel

/-- A row of a table read at sixteen columns. -/
theorem shapeCast_row {w : ℕ} [NeZero w] (f : (⟨2, ![4, w]⟩ : Shape).Idx → F .f32) (off : Fin 2 → ℕ) (hin : ∀ a, off a + S1x16.size a ≤ (⟨2, ![4, w]⟩ : Shape).size a)
    (c : Fin 4) (n : ℕ) (hoff : off = ![c.val, n]) (l : Fin 16) :
    shapeCast S16 (fun x => f ((Rect.unit (s := (⟨2, ![4, w]⟩ : Shape)) off S1x16.size hin).emb x)) shapeCasts_S1x16_S16 (ix1 l) = pt4 (w := w) f c (n + l.val) := by
  subst hoff
  rw [shapeCast_1a_a_apply]
  unfold pt4
  refine congrArg f (funext fun a => ?_)
  match a with
  | ⟨0, _⟩ => exact Fin.ext (by show c.val + 1 * 0 = c.val; omega)
  | ⟨1, _⟩ =>
    refine Fin.ext ?_
    have h := hin 1
    have h' : n + 16 ≤ w := h
    have := l.isLt
    show n + 1 * l.val = (n + l.val) % w
    rw [Nat.mod_eq_of_lt (by omega)]; omega

end Cert.Proof.KI

end
-- ==== Proof.KI.TcTrip.lean ====
/-
  The value of one trip of the TensorCore kernel's inner loop: four groups of 128 packed points read from the eight
  chunks, and each running maximum raised four times.
-/
module

public import proofs.«01_k».proof.Proof.KI.Setup
public import proofs.«01_k».proof.Proof.KI.Spec

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic
open Idealize.ShloMosaic.TcCoe
open Idealize.ShloMosaic.Pipeline (Dat BodyObligation cellOf)

variable {F : FTy → Type} [FloatOps F]

local notation "𝕄" => MT nD τ sig (HIx 1) (Elt F) ℕ UU ℕ

/-- One running maximum raised by `x·p0 + (y·p1 + (z·p2 + p3))`, the points being columns `o ..< o + 128`. -/
def raiseAt (x y z a : FVec F S8x128 .f32) (p0 p1 p2 p3 : FVec F S8x512 .f32) (o : ℕ) (h : S8x512.Slices ![0, o] S8x128) : FVec F S8x128 .f32 :=
  maximumf a (addf (mulf x (extractStridedSlice S8x128 ![0, o] p0 h)) (addf (mulf y (extractStridedSlice S8x128 ![0, o] p1 h))
    (addf (mulf z (extractStridedSlice S8x128 ![0, o] p2 h)) (extractStridedSlice S8x128 ![0, o] p3 h))))

/-- The same over the four groups of 128 columns. -/
def raiseAll (x y z a : FVec F S8x128 .f32) (p0 p1 p2 p3 : FVec F S8x512 .f32) : FVec F S8x128 .f32 :=
  raiseAt x y z (raiseAt x y z (raiseAt x y z (raiseAt x y z a p0 p1 p2 p3 0 slices_S8x512_o0_0_S8x128) p0 p1 p2 p3 128 slices_S8x512_o0_128_S8x128)
    p0 p1 p2 p3 256 slices_S8x512_o0_256_S8x128) p0 p1 p2 p3 384 slices_S8x512_o0_384_S8x128

theorem pay7_eq (x y z a : FVec F S8x128 .f32) (p0 p1 p2 p3 : FVec F S8x512 .f32) : k2_pay7 x y z a p0 p1 p2 p3 = raiseAll x y z a p0 p1 p2 p3 := rfl

theorem pay6_eq (x y z a : FVec F S8x128 .f32) (q0 q1 q2 q3 : Vec F S1x8x512 .f32) :
    k2_pay6 z (k2_pay13 q2) (k2_pay14 q3) (k2_pay15 x y z a q0 q1 q2 q3) (k2_pay16 x q0) (k2_pay17 y q1)
      = raiseAll x y z a (k2_pay11 q0) (k2_pay12 q1) (k2_pay13 q2) (k2_pay14 q3) := rfl

/-- The packed points lane `l` of sublane `s` sees: columns `l`, `128 + l`, `256 + l`, … of chunk `s`. -/
def chunkPts (o : S4x8x49152.Idx → F .f32) (s l : ℕ) : ℕ → Fin 4 → F .f32 := fun n c => o (ix3 c (Fin.ofNat 8 s) (Fin.ofNat 49152 (128 * n + l)))

/-- The running maxima of eight queries, lane by lane, after `n` points. -/
def maxRow (x y z : FVec F S8x128 .f32) (o : S4x8x49152.Idx → F .f32) (n : ℕ) : FVec F S8x128 .f32 :=
  fun j => best ![x j, y j, z j] (chunkPts o (j 0).val (j 1).val) n

theorem raiseAt_step (x y z : FVec F S8x128 .f32) (f : S4x8x49152.Idx → F .f32) (n : ℕ) (p0 p1 p2 p3 : FVec F S8x512 .f32) (o : ℕ) (h : S8x512.Slices ![0, o] S8x128)
    (h0 : ∀ j : S8x128.Idx, extractStridedSlice S8x128 ![0, o] p0 h j = chunkPts f (j 0).val (j 1).val n 0)
    (h1 : ∀ j : S8x128.Idx, extractStridedSlice S8x128 ![0, o] p1 h j = chunkPts f (j 0).val (j 1).val n 1)
    (h2 : ∀ j : S8x128.Idx, extractStridedSlice S8x128 ![0, o] p2 h j = chunkPts f (j 0).val (j 1).val n 2)
    (h3 : ∀ j : S8x128.Idx, extractStridedSlice S8x128 ![0, o] p3 h j = chunkPts f (j 0).val (j 1).val n 3) :
    raiseAt x y z (maxRow x y z f n) p0 p1 p2 p3 o h = maxRow x y z f (n + 1) := by
  funext j
  show FloatOps.maximumf _ (FloatOps.addf (FloatOps.mulf (x j) (extractStridedSlice S8x128 ![0, o] p0 h j)) (FloatOps.addf (FloatOps.mulf (y j) (extractStridedSlice S8x128 ![0, o] p1 h j))
    (FloatOps.addf (FloatOps.mulf (z j) (extractStridedSlice S8x128 ![0, o] p2 h j)) (extractStridedSlice S8x128 ![0, o] p3 h j)))) = _
  rw [h0, h1, h2, h3]
  rfl

/-- A plane of the table read at 512 columns, a group of 128 of them taken. -/
theorem group_eq (f : S4x8x49152.Idx → F .f32) (off : Fin 3 → ℕ) (hin : ∀ a, off a + S1x8x512.size a ≤ S4x8x49152.size a) (c : Fin 4) (n m : ℕ) (hoff : off = ![c.val, 0, 512 * n])
    (q : Vec F S1x8x512 .f32) (hq : ∀ x, q x = f ((Rect.unit (s := S4x8x49152) off S1x8x512.size hin).emb x)) (o : ℕ) (ho : o = 128 * m) (h : S8x512.Slices ![0, o] S8x128) (j : S8x128.Idx) :
    extractStridedSlice S8x128 ![0, o] (shapeCast S8x512 q shapeCasts_S1x8x512_S8x512) h j = chunkPts f (j 0).val (j 1).val (4 * n + m) c := by
  subst hoff ho
  obtain ⟨s, l, rfl⟩ : ∃ (s : Fin 8) (l : Fin 128), j = ix2 s l := ⟨j 0, j 1, eq_ix2 j⟩
  have hm : 128 * m + 128 ≤ 512 := h.2 1
  have hn : 512 * n + 512 ≤ 49152 := hin 2
  have hl : l.val < 128 := l.isLt
  have hs : s.val < 8 := s.isLt
  have e : (extractStridedSlice S8x128 ![0, 128 * m] (shapeCast S8x512 q shapeCasts_S1x8x512_S8x512) h (ix2 s l) : F .f32)
      = shapeCast S8x512 q shapeCasts_S1x8x512_S8x512 (ix2 s ⟨128 * m + l.val, by omega⟩) := by
    refine congrArg (shapeCast S8x512 q shapeCasts_S1x8x512_S8x512) (funext fun a => ?_)
    match a with
    | ⟨0, _⟩ => exact Fin.ext (by show 0 + s.val = s.val; omega)
    | ⟨1, _⟩ => exact Fin.ext (by show 128 * m + l.val = 128 * m + l.val; rfl)
  rw [e, shapeCast_1ab_ab_apply, hq]
  unfold chunkPts
  refine congrArg f (funext fun a => ?_)
  match a with
  | ⟨0, _⟩ => exact Fin.ext (by show c.val + 1 * 0 = c.val; omega)
  | ⟨1, _⟩ => exact Fin.ext (by show 0 + 1 * s.val = s.val % 8; rw [Nat.mod_eq_of_lt hs]; omega)
  | ⟨2, _⟩ => exact Fin.ext (by show 512 * n + 1 * (128 * m + l.val) = (128 * (4 * n + m) + l.val) % 49152; rw [Nat.mod_eq_of_lt (by omega)]; omega)

theorem t2_trips1 : k2_t1_loop.trips = 64 := by decide +kernel
theorem t2_trips2 : k2_t2_loop.trips = 96 := by decide +kernel

theorem c2_off2_eq : ∀ k : Fin k2_t2_loop.trips, k2_off2 k = ![0, 0, 512 * k.val] := by decide +kernel
theorem c2_off3_eq : ∀ k : Fin k2_t2_loop.trips, k2_off3 k = ![1, 0, 512 * k.val] := by decide +kernel
theorem c2_off4_eq : ∀ k : Fin k2_t2_loop.trips, k2_off4 k = ![2, 0, 512 * k.val] := by decide +kernel
theorem c2_off5_eq : ∀ k : Fin k2_t2_loop.trips, k2_off5 k = ![3, 0, 512 * k.val] := by decide +kernel
theorem c2_off1_eq : ∀ (k : Fin k2_t1_loop.trips) (r : Fin 2), k2_off1 k (BitVec.ofNat 32 (8 * r.val)) = ![16 * k.val + 8 * r.val, 0] := by decide +kernel

/-- The four planes read at trip `k`, over the table `f`. -/
structure Planes (f : S4x8x49152.Idx → F .f32) (k : Fin k2_t2_loop.trips) (q0 q1 q2 q3 : Vec F S1x8x512 .f32) : Prop where
  h0 : ∀ x, q0 x = f ((Rect.unit (s := S4x8x49152) (k2_off2 k) S1x8x512.size (k2_off2_inb k)).emb x)
  h1 : ∀ x, q1 x = f ((Rect.unit (s := S4x8x49152) (k2_off3 k) S1x8x512.size (k2_off3_inb k)).emb x)
  h2 : ∀ x, q2 x = f ((Rect.unit (s := S4x8x49152) (k2_off4 k) S1x8x512.size (k2_off4_inb k)).emb x)
  h3 : ∀ x, q3 x = f ((Rect.unit (s := S4x8x49152) (k2_off5 k) S1x8x512.size (k2_off5_inb k)).emb x)

theorem Planes.step {f : S4x8x49152.Idx → F .f32} {k : Fin k2_t2_loop.trips} {q0 q1 q2 q3 : Vec F S1x8x512 .f32} (H : Planes f k q0 q1 q2 q3) (x y z : FVec F S8x128 .f32) (m : ℕ) (o : ℕ) (ho : o = 128 * m)
    (h : S8x512.Slices ![0, o] S8x128) :
    raiseAt x y z (maxRow x y z f (4 * k.val + m)) (k2_pay11 q0) (k2_pay12 q1) (k2_pay13 q2) (k2_pay14 q3) o h = maxRow x y z f (4 * k.val + m + 1) :=
  raiseAt_step x y z f _ _ _ _ _ o h (group_eq f _ _ 0 k.val m (c2_off2_eq k) q0 H.h0 o ho h) (group_eq f _ _ 1 k.val m (c2_off3_eq k) q1 H.h1 o ho h)
    (group_eq f _ _ 2 k.val m (c2_off4_eq k) q2 H.h2 o ho h) (group_eq f _ _ 3 k.val m (c2_off5_eq k) q3 H.h3 o ho h)

/-- One trip raises a running maximum by four points. -/
theorem Planes.all {f : S4x8x49152.Idx → F .f32} {k : Fin k2_t2_loop.trips} {q0 q1 q2 q3 : Vec F S1x8x512 .f32} (H : Planes f k q0 q1 q2 q3) (x y z : FVec F S8x128 .f32) :
    raiseAll x y z (maxRow x y z f (4 * k.val)) (k2_pay11 q0) (k2_pay12 q1) (k2_pay13 q2) (k2_pay14 q3) = maxRow x y z f (4 * (k.val + 1)) := by
  unfold raiseAll
  have e0 := H.step x y z 0 0 rfl slices_S8x512_o0_0_S8x128
  have e1 := H.step x y z 1 128 rfl slices_S8x512_o0_128_S8x128
  have e2 := H.step x y z 2 256 rfl slices_S8x512_o0_256_S8x128
  have e3 := H.step x y z 3 384 rfl slices_S8x512_o0_384_S8x128
  have e0' : raiseAt x y z (maxRow x y z f (4 * k.val)) (k2_pay11 q0) (k2_pay12 q1) (k2_pay13 q2) (k2_pay14 q3) 0 slices_S8x512_o0_0_S8x128 = maxRow x y z f (4 * k.val + 1) := e0
  rw [e0', e1, e2, e3]
  rfl

end Cert.Proof.KI

end
-- ==== Proof.KI.TcRun.lean ====
/-
  The TensorCore kernels run: the packing kernel, the kernel of the chunks' maxima with its two loops, and the kernel
  that combines the two maxima into a distance.
-/
module

public import proofs.«01_k».proof.Proof.KI.TcTrip
public import Idealize.ShloMosaic.Lib.WritesUnit

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic
open Idealize.ShloMosaic.TcCoe
open Idealize.ShloMosaic.Pipeline (Dat BodyObligation cellOf)

variable {F : FTy → Type} [FloatOps F]

local notation "𝕄" => MT nD τ sig (HIx 1) (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A load at the whole rectangle reads everything. -/
theorem readAt_whole {sp : Space} {S : Shape} {e : EltTy} (M : Memref sig .tc sp S e) (off : Fin S.rank → ℕ) (inb : ∀ a, off a + S.size a ≤ S.size a)
    (f : M.view.ty.Contents (Elt F)) (h0 : ∀ a, off a = 0) :
    M.view.readAt (Elt F) (Rect.unit (s := S) off S.size inb).toLoadRect f = M.view.read (Elt F) f := by
  funext x
  rw [View.readAt_apply]
  refine congrArg (M.view.read (Elt F) f) (funext fun a => Fin.ext ?_)
  show off a + 1 * (x a).val = (x a).val
  rw [h0 a]; omega

/-- A store at the whole rectangle leaves the stored value. -/
theorem read_writes_whole {sp : Space} {S : Shape} {e : EltTy} (M : Memref sig .tc sp S e) (off : Fin S.rank → ℕ) (inb : ∀ a, off a + S.size a ≤ S.size a)
    (f : M.view.ty.Contents (Elt F)) (w : S.Idx → Elt F e) (h0 : ∀ a, off a = 0) :
    M.view.read (Elt F) (M.view.writes (Elt F) f [⟨Rect.unit (s := S) off S.size inb, w⟩]) = w := by
  funext y
  exact View.read_writes_cons_unit_of_mem M.view f inb w [] y y rfl (fun a => by rw [h0 a]; omega)

theorem zero2 : ∀ a : Fin 2, (![0, 0] : Fin 2 → ℕ) a = 0 := by decide
theorem zero3 : ∀ a : Fin 3, (![0, 0, 0] : Fin 3 → ℕ) a = 0 := by decide

/-! ## The packing kernel -/

theorem pack_run (c : Dev nD) (M0 : Memref sig .tc .vmem S3x65536 .f32) (h0 : M0.IsWhole) (M1 : Memref sig .tc .vmem S4x16384 .f32) (h1 : M1.IsWhole)
    (M2 : Memref sig .tc .vmem S4x8x49152 .f32) (h2 : M2.IsWhole) (f0 : Bf (F := F) c M0) (f1 : Bf (F := F) c M1) (f2 : Bf (F := F) c M2) :
    iprop(pt c M0 f0 ∗ pt c M1 f1 ∗ pt c M2 f2)
    ⊢ wp frame (wpE (defs₀ (F := F)) 𝒱₀ (c : Thread nD τ) none) Set.univ (cc0__pack_kernel M0 h0 M1 h1 M2 h2)
      fun _ => iprop(pt c M0 f0 ∗ (∃ g1, pt c M1 g1 ∗ ⌜M1.view.read (Elt F) g1 = k0_pay2 (M0.view.read (Elt F) f0)⌝) ∗ ∃ g2, pt c M2 g2 ∗ ⌜M2.view.read (Elt F) g2 = k0_pay3 (M0.view.read (Elt F) f0)⌝) := by
  rw [cc0__pack_kernel_eq_skeleton]
  unfold cc0__pack_kernel_skel
  iintro ⟨H0, H1, H2⟩
  sl_exec
  sl_step
  isplitl [H0]
  · iexact H0
  isplitl [H1]
  · iexists _
    isplitl [H1]
    · iexact H1
    · ipureintro
      refine (read_writes_whole M1 _ _ _ _ zero2).trans ?_
      exact congrArg k0_pay2 (readAt_whole M0 _ _ f0 zero2)
  · iexists _
    isplitl [H2]
    · iexact H2
    · ipureintro
      refine (read_writes_whole M2 _ _ _ _ zero3).trans ?_
      exact congrArg k0_pay3 (readAt_whole M0 _ _ f0 zero2)

/-! ## The combining kernel -/

theorem combine_run (c : Dev nD) (i : grid3.Coords) (M0 : Memref sig .tc .vmem S1024x3 .f32) (h0 : M0.IsWhole) (M1 : Memref sig .tc .vmem S1024x1 .f32) (h1 : M1.IsWhole)
    (M2 : Memref sig .tc .vmem S1024x16 .f32) (h2 : M2.IsWhole) (M3 : Memref sig .tc .vmem S1024x1 .f32) (h3 : M3.IsWhole)
    (f0 : Bf (F := F) c M0) (f1 : Bf (F := F) c M1) (f2 : Bf (F := F) c M2) (f3 : Bf (F := F) c M3) :
    iprop(pt c M0 f0 ∗ pt c M1 f1 ∗ pt c M2 f2 ∗ pt c M3 f3)
    ⊢ wp frame (wpE (defs₀ (F := F)) 𝒱₀ (c : Thread nD τ) none) Set.univ (cc3__combine_kernel i M0 h0 M1 h1 M2 h2 M3 h3)
      fun _ => iprop(pt c M0 f0 ∗ pt c M1 f1 ∗ pt c M2 f2 ∗ ∃ g3, pt c M3 g3 ∗ ⌜M3.view.read (Elt F) g3 = k3_pay1 (M0.view.read (Elt F) f0) (M1.view.read (Elt F) f1) (M2.view.read (Elt F) f2)⌝) := by
  rw [cc3__combine_kernel_eq_skeleton]
  unfold cc3__combine_kernel_skel
  iintro ⟨H0, H1, H2, H3⟩
  sl_exec
  sl_step
  isplitl [H0]
  · iexact H0
  isplitl [H1]
  · iexact H1
  isplitl [H2]
  · iexact H2
  iexists _
  isplitl [H3]
  · iexact H3
  · ipureintro
    refine (read_writes_whole M3 _ _ _ _ zero2).trans ?_
    exact congr (congr (congrArg k3_pay1 (readAt_whole M0 _ _ f0 zero2)) (readAt_whole M1 _ _ f1 zero2)) (readAt_whole M2 _ _ f2 zero2)

/-! ## The kernel of the chunks' maxima -/

section
variable (c : Dev nD) (i : grid2.Coords) (M1 : Memref sig .tc .vmem S1024x3 .f32) (h1 : M1.IsWhole) (M2 : Memref sig .tc .vmem S4x8x49152 .f32) (h2 : M2.IsWhole) (M3 : Memref sig .tc .vmem S1024x1 .f32) (h3 : M3.IsWhole)
  (M4 : Memref sig .tc .vmem S1024x128 .f32) (h4 : M4.IsWhole) (M5 : Memref sig .tc .vmem S1024x128 .f32) (h5 : M5.IsWhole) (M6 : Memref sig .tc .vmem S1024x128 .f32) (h6 : M6.IsWhole) (M7 : Memref sig .tc .vmem S1024x128 .f32) (h7 : M7.IsWhole)

/-- The two carried vectors after `k` trips. -/
abbrev accs (x0 y0 z0 x1 y1 z1 : FVec F S8x128 .f32) (f : S4x8x49152.Idx → F .f32) (k : ℕ) : FVec F S8x128 .f32 × FVec F S8x128 .f32 :=
  (maxRow x0 y0 z0 f (4 * k), maxRow x1 y1 z1 f (4 * k))

theorem inner_trip (f2 : Bf (F := F) c M2) (x0 y0 z0 x1 y1 z1 : FVec F S8x128 .f32) (k : Fin k2_t2_loop.trips) :
    pt c M2 f2
    ⊢ wp frame (wpE (defs₀ (F := F)) 𝒱₀ (c : Thread nD τ) none) Set.univ (k2_t2_body i M1 h1 M2 h2 M3 h3 M4 h4 M5 h5 M6 h6 M7 h7 x0 y0 z0 x1 y1 z1 k (accs x0 y0 z0 x1 y1 z1 (M2.view.read (Elt F) f2) k.val))
      fun r => iprop(pt c M2 f2 ∗ ⌜r = accs x0 y0 z0 x1 y1 z1 (M2.view.read (Elt F) f2) (k.val + 1)⌝) := by
  unfold k2_t2_body accs
  rw [k2_part1_eq_skeleton]
  unfold k2_part1_skel
  iintro H
  sl_exec
  sl_step
  isplitl [H]
  · iexact H
  · ipureintro
    have P : Planes (M2.view.read (Elt F) f2) k _ _ _ _ := ⟨fun _ => rfl, fun _ => rfl, fun _ => rfl, fun _ => rfl⟩
    exact congr (congrArg Prod.mk (P.all x0 y0 z0)) (P.all x1 y1 z1)

theorem inner_loop (f2 : Bf (F := F) c M2) (x0 y0 z0 x1 y1 z1 : FVec F S8x128 .f32)
    {β : Type} (kk : FVec F S8x128 .f32 × FVec F S8x128 .f32 → Prog (TpuEff nD τ sig (Elt F) Λ₀ .tc) β) (Q : β → sProp 𝕄) :
    iprop(pt c M2 f2 ∗ (pt c M2 f2 -∗ wp frame (wpE (defs₀ (F := F)) 𝒱₀ (c : Thread nD τ) none) Set.univ (kk (accs x0 y0 z0 x1 y1 z1 (M2.view.read (Elt F) f2) 96)) Q))
    ⊢ wp frame (wpE (defs₀ (F := F)) 𝒱₀ (c : Thread nD τ) none) Set.univ
      (Scf.Loop.for k2_t2_loop k2_t2_ok (k2_pay5 (F := F), k2_pay5 (F := F)) (k2_t2_body i M1 h1 M2 h2 M3 h3 M4 h4 M5 h5 M6 h6 M7 h7 x0 y0 z0 x1 y1 z1) >>= kk) Q := by
  have hfor := Scf.wp_for_bind (M := 𝕄) frame (wpE (defs₀ (F := F)) 𝒱₀ (c : Thread nD τ) none) Set.univ k2_t2_loop.lb k2_t2_loop.ub k2_t2_loop.st k2_t2_ok (k2_pay5 (F := F), k2_pay5 (F := F))
    (k2_t2_body i M1 h1 M2 h2 M3 h3 M4 h4 M5 h5 M6 h6 M7 h7 x0 y0 z0 x1 y1 z1)
    (fun n acc => iprop(pt c M2 f2 ∗ ⌜acc = accs x0 y0 z0 x1 y1 z1 (M2.view.read (Elt F) f2) n⌝)) ?step (kk := kk) (Q := Q)
  case step =>
    intro k acc
    iintro ⟨H, %h⟩
    subst h
    iapply (inner_trip c i M1 h1 M2 h2 M3 h3 M4 h4 M5 h5 M6 h6 M7 h7 f2 x0 y0 z0 x1 y1 z1 k)
    iexact H
  iintro ⟨H, Hk⟩
  ihave Hw := hfor $$ [H]
  · isplitl [H]
    · iexact H
    · ipureintro; rfl
  iapply Hw
  iintro %acc ⟨H, %h⟩
  subst h
  have ht : Scf.trips k2_t2_loop.lb k2_t2_loop.ub k2_t2_loop.st = 96 := t2_trips2
  rw [ht]
  iapply Hk
  iexact H

/-- Rows below `n` of the table of maxima are done, the columns of coordinates being `a`, `b`, `e`. -/
def RowsDone (a b e : S1024x128.Idx → F .f32) (f : S4x8x49152.Idx → F .f32) (g : S1024x128.Idx → F .f32) (n : ℕ) : Prop :=
  ∀ (r : Fin 1024) (l : Fin 128), r.val < n → g (ix2 r l) = best ![a (ix2 r l), b (ix2 r l), e (ix2 r l)] (chunkPts f (r.val % 8) l.val) 384

/-- Eight rows stored at their place. -/
theorem RowsDone.store {a b e : S1024x128.Idx → F .f32} {f : S4x8x49152.Idx → F .f32} {g : M7.view.ty.Contents (Elt F)} (L : List (View.Piece (Elt F) S1024x128 .f32)) {n : ℕ}
    (H : RowsDone a b e f (M7.view.read (Elt F) (M7.view.writes (Elt F) g L)) (8 * n))
    (off : Fin 2 → ℕ) (hin : ∀ a, off a + S8x128.size a ≤ S1024x128.size a) (hoff : off = ![8 * n, 0]) (x y z : FVec F S8x128 .f32)
    (hx : ∀ j, x j = a ((Rect.unit (s := S1024x128) off S8x128.size hin).emb j)) (hy : ∀ j, y j = b ((Rect.unit (s := S1024x128) off S8x128.size hin).emb j))
    (hz : ∀ j, z j = e ((Rect.unit (s := S1024x128) off S8x128.size hin).emb j)) (w : FVec F S8x128 .f32) (hw : w = shapeCast S8x128 (maxRow x y z f (4 * 96)) shapeCasts_S8x128_S8x128) :
    RowsDone a b e f (M7.view.read (Elt F) (M7.view.writes (Elt F) g (⟨Rect.unit (s := S1024x128) off S8x128.size hin, w⟩ :: L))) (8 * n + 8) := by
  subst hoff hw
  intro r l hr
  have hn : 8 * n + 8 ≤ 1024 := hin 0
  by_cases hrn : r.val < 8 * n
  · rw [View.read_writes_cons_unit_of_not_mem M7.view g hin _ L (ix2 r l) rfl 0 (Or.inl hrn)]
    exact H r l hrn
  · have hs : r.val - 8 * n < 8 := by omega
    rw [View.read_writes_cons_unit_of_mem M7.view g hin _ L (ix2 r l) (ix2 (⟨r.val - 8 * n, hs⟩ : Fin 8) l : S8x128.Idx) rfl (by
      intro q
      match q with
      | ⟨0, _⟩ => show r.val = 8 * n + (r.val - 8 * n); omega
      | ⟨1, _⟩ => show l.val = 0 + l.val; omega)]
    have he : (Rect.unit (s := S1024x128) ![8 * n, 0] S8x128.size hin).emb (ix2 (⟨r.val - 8 * n, hs⟩ : Fin 8) l : S8x128.Idx) = ix2 r l := by
      funext q
      match q with
      | ⟨0, _⟩ => exact Fin.ext (by show 8 * n + 1 * (r.val - 8 * n) = r.val; omega)
      | ⟨1, _⟩ => exact Fin.ext (by show 0 + 1 * l.val = l.val; omega)
    rw [shapeCast_self]
    show best ![x (ix2 (⟨r.val - 8 * n, hs⟩ : Fin 8) l), y (ix2 (⟨r.val - 8 * n, hs⟩ : Fin 8) l), z (ix2 (⟨r.val - 8 * n, hs⟩ : Fin 8) l)] (chunkPts f (r.val - 8 * n) l.val) 384 = _
    rw [hx, hy, hz, he, show r.val - 8 * n = r.val % 8 by omega]

theorem outer_trip (f2 : Bf (F := F) c M2) (f4 : Bf (F := F) c M4) (f5 : Bf (F := F) c M5) (f6 : Bf (F := F) c M6) (f7 : Bf (F := F) c M7) (k : Fin k2_t1_loop.trips)
    (H : RowsDone (M4.view.read (Elt F) f4) (M5.view.read (Elt F) f5) (M6.view.read (Elt F) f6) (M2.view.read (Elt F) f2) (M7.view.read (Elt F) f7) (16 * k.val)) :
    iprop(pt c M2 f2 ∗ pt c M4 f4 ∗ pt c M5 f5 ∗ pt c M6 f6 ∗ pt c M7 f7)
    ⊢ wp frame (wpE (defs₀ (F := F)) 𝒱₀ (c : Thread nD τ) none) Set.univ (k2_t1_body i M1 h1 M2 h2 M3 h3 M4 h4 M5 h5 M6 h6 M7 h7 k ⟨⟩)
      fun _ => iprop(pt c M2 f2 ∗ pt c M4 f4 ∗ pt c M5 f5 ∗ pt c M6 f6 ∗ ∃ g7, pt c M7 g7 ∗ ⌜RowsDone (M4.view.read (Elt F) f4) (M5.view.read (Elt F) f5) (M6.view.read (Elt F) f6) (M2.view.read (Elt F) f2) (M7.view.read (Elt F) g7) (16 * (k.val + 1))⌝) := by
  unfold k2_t1_body
  iintro ⟨H2, H4, H5, H6, H7⟩
  sl_exec
  iapply (inner_loop c i M1 h1 M2 h2 M3 h3 M4 h4 M5 h5 M6 h6 M7 h7 f2)
  isplitl [H2]
  · iexact H2
  iintro H2
  sl_exec
  sl_step
  isplitl [H2]
  · iexact H2
  isplitl [H4]
  · iexact H4
  isplitl [H5]
  · iexact H5
  isplitl [H6]
  · iexact H6
  iexists _
  isplitl [H7]
  · iexact H7
  · ipureintro
    have e0 : 8 * (2 * k.val) = 16 * k.val := by omega
    have A := RowsDone.store M7 [] (n := 2 * k.val) (by rw [e0]; exact H) (k2_off1 k 0#32) (k2_off1_inb k 0) ((c2_off1_eq k 0).trans (by rw [e0]; rfl)) _ _ _ (fun _ => rfl) (fun _ => rfl) (fun _ => rfl) _ rfl
    have B := RowsDone.store M7 _ (n := 2 * k.val + 1) A (k2_off1 k 8#32) (k2_off1_inb k 1) ((c2_off1_eq k 1).trans (by rw [← e0]; rfl)) _ _ _ (fun _ => rfl) (fun _ => rfl) (fun _ => rfl) _ rfl
    have e1 : 8 * (2 * k.val + 1) + 8 = 16 * (k.val + 1) := by omega
    rw [e1] at B
    exact B

/-- The table of running maxima of a block of queries over the chunks. -/
def accTab (x : S1024x3.Idx → F .f32) (f : S4x8x49152.Idx → F .f32) : FVec F S1024x128 .f32 :=
  fun j => best (fun q => x (ix2 (j 0) q)) (chunkPts f ((j 0).val % 8) (j 1).val) 384

/-- A column of the block's coordinates spread over the lanes. -/
theorem spread_eq (x : Vec F S1024x3 .f32) (q : Fin 3) (h : S1024x3.Slices ![0, q.val] S1024x1) (r : Fin 1024) (l : Fin 128) :
    shapeCast S1024x128 (broadcastTo S1024x128 (shapeCast S1024x1 (extractStridedSlice S1024x1 ![0, q.val] x h) shapeCasts_S1024x1_S1024x1) broadcasts_S1024x1_S1024x128) shapeCasts_S1024x128_S1024x128 (ix2 r l)
      = x (ix2 r q) := by
  rw [shapeCast_self, shapeCast_self]
  refine congrArg x (funext fun a => ?_)
  match a with
  | ⟨0, _⟩ => exact Fin.ext (by show 0 + r.val = r.val; omega)
  | ⟨1, _⟩ => exact Fin.ext (by show q.val + 0 = q.val; omega)

theorem col_eq (x : Vec F S1024x3 .f32) (r : Fin 1024) (l : Fin 128) :
    ![k2_pay1 x (ix2 r l), k2_pay2 x (ix2 r l), k2_pay3 x (ix2 r l)] = fun q => x (ix2 r q) := by
  funext q
  match q with
  | ⟨0, _⟩ => exact spread_eq x 0 slices_S1024x3_o0_0_S1024x1 r l
  | ⟨1, _⟩ => exact spread_eq x 1 slices_S1024x3_o0_1_S1024x1 r l
  | ⟨2, _⟩ => exact spread_eq x 2 slices_S1024x3_o0_2_S1024x1 r l

theorem rows_all (x : Vec F S1024x3 .f32) (f : S4x8x49152.Idx → F .f32) (g : S1024x128.Idx → F .f32) (H : RowsDone (k2_pay1 x) (k2_pay2 x) (k2_pay3 x) f g 1024) : g = accTab x f := by
  funext j
  obtain ⟨r, l, rfl⟩ : ∃ (r : Fin 1024) (l : Fin 128), j = ix2 r l := ⟨j 0, j 1, eq_ix2 j⟩
  refine (H r l r.isLt).trans ?_
  rw [col_eq]
  rfl

theorem outer_loop (f2 : Bf (F := F) c M2) (f4 : Bf (F := F) c M4) (f5 : Bf (F := F) c M5) (f6 : Bf (F := F) c M6) (f7 : Bf (F := F) c M7)
    {β : Type} (kk : Unit → Prog (TpuEff nD τ sig (Elt F) Λ₀ .tc) β) (Q : β → sProp 𝕄) :
    iprop(pt c M2 f2 ∗ pt c M4 f4 ∗ pt c M5 f5 ∗ pt c M6 f6 ∗ pt c M7 f7
      ∗ (∀ g7, iprop(pt c M2 f2 ∗ pt c M4 f4 ∗ pt c M5 f5 ∗ pt c M6 f6 ∗ pt c M7 g7
            ∗ ⌜RowsDone (M4.view.read (Elt F) f4) (M5.view.read (Elt F) f5) (M6.view.read (Elt F) f6) (M2.view.read (Elt F) f2) (M7.view.read (Elt F) g7) 1024⌝)
          -∗ wp frame (wpE (defs₀ (F := F)) 𝒱₀ (c : Thread nD τ) none) Set.univ (kk ⟨⟩) Q))
    ⊢ wp frame (wpE (defs₀ (F := F)) 𝒱₀ (c : Thread nD τ) none) Set.univ
      (Scf.Loop.for k2_t1_loop k2_t1_ok ⟨⟩ (k2_t1_body i M1 h1 M2 h2 M3 h3 M4 h4 M5 h5 M6 h6 M7 h7) >>= kk) Q := by
  have hfor := Scf.wp_for_bind (M := 𝕄) frame (wpE (defs₀ (F := F)) 𝒱₀ (c : Thread nD τ) none) Set.univ k2_t1_loop.lb k2_t1_loop.ub k2_t1_loop.st k2_t1_ok (⟨⟩ : Unit)
    (k2_t1_body i M1 h1 M2 h2 M3 h3 M4 h4 M5 h5 M6 h6 M7 h7)
    (fun n _ => iprop(pt c M2 f2 ∗ pt c M4 f4 ∗ pt c M5 f5 ∗ pt c M6 f6 ∗ ∃ g7, pt c M7 g7
            ∗ ⌜RowsDone (M4.view.read (Elt F) f4) (M5.view.read (Elt F) f5) (M6.view.read (Elt F) f6) (M2.view.read (Elt F) f2) (M7.view.read (Elt F) g7) (16 * n)⌝)) ?step (kk := kk) (Q := Q)
  case step =>
    intro k acc
    iintro ⟨H2, H4, H5, H6, ⟨%g7, H7, %h⟩⟩
    iapply (outer_trip c i M1 h1 M2 h2 M3 h3 M4 h4 M5 h5 M6 h6 M7 h7 f2 f4 f5 f6 g7 k h)
    isplitl [H2]
    · iexact H2
    isplitl [H4]
    · iexact H4
    isplitl [H5]
    · iexact H5
    isplitl [H6]
    · iexact H6
    iexact H7
  iintro ⟨H2, H4, H5, H6, H7, Hk⟩
  ihave Hw := hfor $$ [H2 H4 H5 H6 H7]
  · isplitl [H2]
    · iexact H2
    isplitl [H4]
    · iexact H4
    isplitl [H5]
    · iexact H5
    isplitl [H6]
    · iexact H6
    iexists f7
    isplitl [H7]
    · iexact H7
    · ipureintro
      intro r l hr
      omega
  iapply Hw
  iintro %acc ⟨H2, H4, H5, H6, ⟨%g7, H7, %h⟩⟩
  have ht : Scf.trips k2_t1_loop.lb k2_t1_loop.ub k2_t1_loop.st = 64 := t2_trips1
  rw [ht] at h
  ihave Hf := Hk $$ %g7
  iapply Hf
  isplitl [H2]
  · iexact H2
  isplitl [H4]
  · iexact H4
  isplitl [H5]
  · iexact H5
  isplitl [H6]
  · iexact H6
  isplitl [H7]
  · iexact H7
  · ipureintro; exact h

theorem nn_run (f1 : Bf (F := F) c M1) (f2 : Bf (F := F) c M2) (f3 : Bf (F := F) c M3) (f4 : Bf (F := F) c M4) (f5 : Bf (F := F) c M5) (f6 : Bf (F := F) c M6) (f7 : Bf (F := F) c M7) :
    iprop(pt c M1 f1 ∗ pt c M2 f2 ∗ pt c M3 f3 ∗ pt c M4 f4 ∗ pt c M5 f5 ∗ pt c M6 f6 ∗ pt c M7 f7)
    ⊢ wp frame (wpE (defs₀ (F := F)) 𝒱₀ (c : Thread nD τ) none) Set.univ (cc2__nn_tc_kernel i M1 h1 M2 h2 M3 h3 M4 h4 M5 h5 M6 h6 M7 h7)
      fun _ => iprop(pt c M1 f1 ∗ pt c M2 f2 ∗ (∃ g3, pt c M3 g3 ∗ ⌜M3.view.read (Elt F) g3 = k2_pay10 (accTab (M1.view.read (Elt F) f1) (M2.view.read (Elt F) f2))⌝)
        ∗ (∃ g, pt c M4 g) ∗ (∃ g, pt c M5 g) ∗ (∃ g, pt c M6 g) ∗ ∃ g, pt c M7 g) := by
  rw [cc2__nn_tc_kernel_eq_skeleton]
  unfold cc2__nn_tc_kernel_skel
  iintro ⟨H1, H2, H3, H4, H5, H6, H7⟩
  sl_exec
  iapply (outer_loop c i M1 h1 M2 h2 M3 h3 M4 h4 M5 h5 M6 h6 M7 h7 f2)
  isplitl [H2]
  · iexact H2
  isplitl [H4]
  · iexact H4
  isplitl [H5]
  · iexact H5
  isplitl [H6]
  · iexact H6
  isplitl [H7]
  · iexact H7
  iintro %g7 ⟨H2, H4, H5, H6, H7, %h⟩
  have E4 : M4.view.read (Elt F) (M4.view.writes (Elt F) M4.view.junk (nn_run.sl.H4_1 c M1 f1)) = k2_pay1 (M1.view.read (Elt F) f1) :=
    (read_writes_whole M4 _ _ _ _ zero2).trans (congrArg k2_pay1 (readAt_whole M1 _ _ f1 zero2))
  have E5 : M5.view.read (Elt F) (M5.view.writes (Elt F) M5.view.junk (nn_run.sl.H5_1 c M1 f1)) = k2_pay2 (M1.view.read (Elt F) f1) :=
    (read_writes_whole M5 _ _ _ _ zero2).trans (congrArg k2_pay2 (readAt_whole M1 _ _ f1 zero2))
  have E6 : M6.view.read (Elt F) (M6.view.writes (Elt F) M6.view.junk (nn_run.sl.H6_1 c M1 f1)) = k2_pay3 (M1.view.read (Elt F) f1) :=
    (read_writes_whole M6 _ _ _ _ zero2).trans (congrArg k2_pay3 (readAt_whole M1 _ _ f1 zero2))
  rw [E4, E5, E6] at h
  have h' := rows_all _ _ _ h
  sl_exec
  sl_step
  isplitl [H1]
  · iexact H1
  isplitl [H2]
  · iexact H2
  isplitl [H3]
  · iexists _
    isplitl [H3]
    · iexact H3
    · ipureintro
      refine (read_writes_whole M3 _ _ _ _ zero2).trans ?_
      exact congrArg k2_pay10 ((readAt_whole M7 _ _ g7 zero2).trans h')
  isplitl [H4]
  · iexists _; iexact H4
  isplitl [H5]
  · iexists _; iexact H5
  isplitl [H6]
  · iexists _; iexact H6
  iexists _; iexact H7

end

end Cert.Proof.KI

end
-- ==== Proof.KI.Seg.lean ====
/-
  A TensorCore kernel's region inside the program: entered from the core's buffers, its debts to the SparseCore held
  throughout, and left with the results' buffers changed.
-/
module

public import proofs.«01_k».proof.Proof.KI.Setup
public import proofs.«01_k».proof.Proof.KI.Spec
public import Idealize.ShloMosaic.Lib.Pipeline.RegionsLoop
public import Idealize.ShloMosaic.Lib.Tactic

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic
open Idealize.ShloMosaic.TcCoe
open Idealize.ShloMosaic.Pipeline (Dat BodyObligation cellOf)

variable {F : FTy → Type} [FloatOps F]

local notation "𝕄" => MT nD τ sig (HIx 1) (Elt F) ℕ UU ℕ

/-- What the TensorCore owes before call `n`, its recorded waits at or below level `b`. -/
def OW (c : Dev nD) (n b : ℕ) : sProp 𝕄 :=
  iprop(∃ W, ⌜(K (F := F)).WBelow (T c) W b⌝ ∗ owes (T c) ((K (F := F)).Otc c n) W)

/-- The waits at or below level `b`. -/
def recd (c : Dev nD) (b : ℕ) : Set (SemLoc sig × HIx 1) := {p | (K (F := F)).lev (T c, p.1) p.2 ≤ b}

theorem Otc_none (c : Dev nD) (n : ℕ) (g : GSem nD τ sig) : (K (F := F)).Otc c n g none = 0 := by
  unfold SparseCore.Cfg.Otc
  have hadd : ∀ a b : CellTallies nD τ sig (HIx 1), a g none = 0 → b g none = 0 → (a + b) g none = 0 := fun a b ha hb => by
    show a g none + b g none = 0
    rw [ha, hb]
  refine Finset.sum_induction _ (fun O : CellTallies nD τ sig (HIx 1) => O g none = 0) hadd rfl fun q _ => ?_
  split
  · refine Finset.sum_induction _ (fun O : CellTallies nD τ sig (HIx 1) => O g none = 0) hadd rfl fun c _ => ?_
    rw [tallyAt_apply, if_neg (fun h => by cases h.2)]
  · rfl

variable (adm : (p : Fin 3) → (pcfgs (F := F) p).Adm)

/-- A proof data family of the three pipelines. -/
abbrev Dats : Type := (p : Fin 3) → (c : Dev nD) → Dat τ (Elt F) (HIx 1) ℕ UU ℕ (Pipeline.pin (pcfgs (F := F)) adm p) c

/-- The buffers of each core, by reference. -/
abbrev Bufs (F : FTy → Type) : Type := (c : Dev nD) → (b : Ref sig .tc) → Buf (Elt F) ((c : Thread nD τ).loc b)

/-- What a region's proof data has to say: the entry contents, the invariant between points, full shares, the core's
    debts throughout. -/
structure Fits (pd : Dats (F := F) adm) (p : Fin 3) (n b : ℕ) (V Vp : Bufs F) : Prop where
  A : ∀ c w, (pd p c).A w = V c (Pipeline.arrRef (Pipeline.pin (pcfgs (F := F)) adm p).spec w)
  Φ0 : ∀ c, (pd p c).Φ 0 = Pipeline.scopedRest (Pipeline.pin (pcfgs (F := F)) adm p).spec c
  Φn : ∀ c, (pd p c).Φ (Fin.last _) = Pipeline.scopedRest (Pipeline.pin (pcfgs (F := F)) adm p).spec c
  q : ∀ c w, (pd p c).q w = fullShare
  owed : ∀ c t, (pd p c).owed t = (K (F := F)).Otc c n
  recorded : ∀ c t, (pd p c).recorded t = recd (F := F) c b
  arr : ∀ c w, (pd p c).arrAt w (Pipeline.pin (pcfgs (F := F)) adm p).N = Vp c (Pipeline.arrRef (Pipeline.pin (pcfgs (F := F)) adm p).spec w)
  ne : ∀ c (r : Ref sig .tc), r ∉ Finset.univ.image (Pipeline.arrRef (Pipeline.pin (pcfgs (F := F)) adm p).spec) → Vp c r = V c r
  body : ∀ c, BodyObligation (pd p c) (defs₀ (F := F)) 𝒱₀ none Set.univ

set_option backward.isDefEq.respectTransparency.types false in
/-- The region of pipeline `p` from data that fit. -/
def seg (pd : Dats (F := F) adm) (p : Fin 3) (n b : ℕ) (V Vp : Bufs F) (H : Fits adm pd p n b V Vp) (L : Pipeline.LaunchFacts (nD := nD) (τ := τ) cfgs p) (R : Dev nD → sProp 𝕄) :
    Pipeline.RegionSeg (pcfgs (F := F)) adm pd none defs₀ 𝒱₀ (K (F := F)).L (K (F := F)).lev p where
  win := L.win.to₀
  block_pos := L.block_pos
  stage_whole := L.stage_whole
  K := PEmpty
  osem k := k.elim
  ho := Pipeline.OwnSemFacts.none _
  hbody c := (H.body c).loose
  hwaits c := Pipeline.cellsWaits_intro _ _ _ _ _ fun w s t => by
    rw [H.owed]
    exact (K (F := F)).mayWait_none _ (Otc_none c n)
  pre c := iprop(unscopedBufs c (V c) ∗ R c ∗ OW c n b)
  post c := iprop(unscopedBufs c (Vp c) ∗ R c ∗ OW c n b)
  X _ := BI.emp
  Y _ := BI.emp
  Z c := iprop(Pipeline.unscopedRest (Ix := HIx 1) (Name := ℕ) (U := UU) (Lvl := ℕ) (Pipeline.pin (pcfgs (F := F)) adm p).spec c (V c) ∗ R c)
  hentry c := by
    rw [Pipeline.ownSems0_none]
    have hsplit := Pipeline.arrays_of_unscopedBufs (p := p) (pcfgs (F := F)) adm pd L.win L.arr_whole c
      ((pd p c).share_full (H.q c)) (V c) (H.A c)
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin OW
      icases HO with ⟨%W, %hW, HO⟩; iexists W; isplitr
      · ipureintro
        intro x hx
        refine Or.inl ?_
        rw [H.recorded]
        exact hW x hx
      rw [H.owed]
      iexact HO
    isplitr; · iempintro
    isplitl [Hrest] <;> iassumption
  hin c := by
    rw [H.Φ0]
    iintro ⟨-, -, Hr⟩; iexact Hr
  hout c := by
    rw [Pipeline.ownSems0_none, H.Φn]
    iintro Hr
    isplitr; · iempintro
    isplitr; · iempintro
    iexact Hr
  hexit c := by
    have hjoin := Pipeline.unscopedBufs_of_arrays (p := p) (pcfgs (F := F)) adm (Ix := HIx 1) (Name := ℕ) (U := UU) (Lvl := ℕ) L.win L.arr_whole c
      pd ((pd p c).share_full (H.q c)) (V c) (Vp c) ((pd p c).arrAt · (Pipeline.pin (pcfgs (F := F)) adm p).N)
      (H.arr c) (H.ne c)
    iintro ⟨Ha, HO, -, Hrest, HR⟩
    imodintro
    isplitl [Ha Hrest]
    · iapply hjoin; isplitl [Ha] <;> iassumption
    isplitl [HR]; · iexact HR
    unfold Pipeline.Dat.owesAt Pipeline.owesWithin OW
    icases HO with ⟨%W, %hW, HO⟩; iexists W
    rw [H.owed]
    isplitr
    · ipureintro
      intro x hx
      rcases hW hx with h | ⟨w, s, h⟩
      · rw [H.recorded] at h
        exact h
      · rw [h]
        exact Nat.zero_le _
    iexact HO

end Cert.Proof.KI

end
-- ==== Proof.KI.Reg0.lean ====
/-
  The packing kernel's region: its data, and what it leaves in the two packed tables.
-/
module

public import proofs.«01_k».proof.Proof.KI.TcRun
public import proofs.«01_k».proof.Proof.KI.Seg
public import Idealize.ShloMosaic.Lib.Pipeline.Value

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic
open Idealize.ShloMosaic.TcCoe
open Idealize.ShloMosaic.Pipeline (Dat BodyObligation cellOf)

variable {F : FTy → Type} [FloatOps F]

local notation "𝕄" => MT nD τ sig (HIx 1) (Elt F) ℕ UU ℕ

/-- A whole memref's ownership is its buffer's. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns
  rw [h.set_eq_univ]

theorem owns_open (c : Dev nD) {sp : Space} {S : Shape} {e : EltTy} (M : Memref sig .tc sp S e) (h : M.IsWhole) (X : S.Idx → Elt F e) :
    (owns (c : Thread nD τ) M fullShare X : sProp 𝕄) ⊢ iprop(∃ f, ⌜M.view.read (Elt F) f = X⌝ ∗ pt c M f) :=
  Entails.of_eq (owns_pt c M h X)

theorem owns_close (c : Dev nD) {sp : Space} {S : Shape} {e : EltTy} (M : Memref sig .tc sp S e) (h : M.IsWhole) (X : S.Idx → Elt F e) (f : Bf c M)
    (e : M.view.read (Elt F) f = X) : (pt c M f : sProp 𝕄) ⊢ owns (c : Thread nD τ) M fullShare X := by
  rw [owns_pt c M h X]
  iintro H
  iexists f
  isplitr
  · ipureintro; exact e
  iexact H

/-- The data of a pipeline a region does not run. -/
def idleDat {cfg : Pipeline.Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

variable (V : Bufs F)

/-- A window's block of its array at a point. -/
abbrev blk0 (c : Dev nD) (w : Fin cfg0.W) (t : Fin cfg0.N) := ((cfg0.win w).blk t).view.read (Elt F) (V c (Pipeline.arrRef spec0 w))

/-- The packing region's data from the contents `V`. -/
def dat0 (c : Dev nD) (n b : ℕ) : Dat τ (Elt F) (HIx 1) ℕ UU ℕ cfg0 c where
  A w := V c (Pipeline.arrRef spec0 w)
  after w t := match w with
    | ⟨0, _⟩ => blk0 V c 0 t
    | ⟨1, _⟩ => k0_pay2 (blk0 V c 0 t)
    | ⟨2, _⟩ => k0_pay3 (blk0 V c 0 t)
  Φ _ := Pipeline.scopedRest (Ix := HIx 1) (Name := ℕ) (U := UU) (Lvl := ℕ) (Val := Elt F) spec0 c
  q _ := fullShare
  owed _ := (K (F := F)).Otc c n
  recorded _ := recd (F := F) c b

theorem before0_0 (c : Dev nD) (n b : ℕ) (t : Fin cfg0.N) (d : (cfg0.win 0).block.Idx → Elt F (cfg0.win 0).elt) : (dat0 V c n b).before 0 t d = blk0 V c 0 t := by
  unfold Dat.before; rw [if_pos (fetch0_0 t)]; rfl

theorem body0 (c : Dev nD) (n b : ℕ) : BodyObligation (dat0 V c n b) (defs₀ (F := F)) 𝒱₀ none Set.univ := fun t => by
  rw [bigSep_W0, bigSep_W0]
  rw [show (dat0 V c n b).owesAt none t.succ = (dat0 V c n b).owesAt none t.castSucc from rfl]
  rw [show (dat0 V c n b).Φ t.castSucc = Pipeline.scopedRest spec0 c from rfl, show (dat0 V c n b).Φ t.succ = Pipeline.scopedRest spec0 c from rfl]
  have h0 : ((cfg0.win 0).stage (cfg0.slots t 0)).IsWhole := stage_whole0 0 _
  have h1 : ((cfg0.win 1).stage (cfg0.slots t 1)).IsWhole := stage_whole0 1 _
  have h2 : ((cfg0.win 2).stage (cfg0.slots t 2)).IsWhole := stage_whole0 2 _
  dsimp only
  simp only [before0_0]
  iintro ⟨HΦ, Howes, ⟨%d0, H0⟩, ⟨%d1, H1⟩, ⟨%d2, H2⟩⟩
  ihave H0 := owns_open c _ h0 _ $$ [H0]
  · iexact H0
  icases H0 with ⟨%f0, %hf0, H0⟩
  ihave H1 := owns_open c _ h1 _ $$ [H1]
  · iexact H1
  icases H1 with ⟨%f1, -, H1⟩
  ihave H2 := owns_open c _ h2 _ $$ [H2]
  · iexact H2
  icases H2 with ⟨%f2, -, H2⟩
  iapply (wp_wand_r frame (wpE (defs₀ (F := F)) 𝒱₀ (c : Thread nD τ) none) Set.univ)
  isplitl [H0 H1 H2]
  · iapply (pack_run c _ h0 _ h1 _ h2 f0 f1 f2)
    isplitl [H0]
    · iexact H0
    isplitl [H1]
    · iexact H1
    iexact H2
  iintro %r ⟨H0, ⟨%g1, H1, %e1⟩, ⟨%g2, H2, %e2⟩⟩
  rw [hf0] at e1 e2
  isplitl [HΦ]
  · iexact HΦ
  isplitl [Howes]
  · iexact Howes
  isplitl [H0]
  · iapply (owns_close c _ h0 _ f0 hf0)
    iexact H0
  isplitl [H1]
  · iapply (owns_close c _ h1 _ g1 e1)
    iexact H1
  · iapply (owns_close c _ h2 _ g2 e2)
    iexact H2

theorem blk0_0 (c : Dev nD) (t : Fin cfg0.N) : blk0 V c 0 t = V c main_v0 := by
  obtain rfl := fin_N0 t
  funext j
  refine congrArg (V c main_v0) (funext fun a => ?_)
  match a with
  | ⟨0, _⟩ => exact Fin.ext (by show 0 * _ + 1 * (j 0).val = (j 0).val; omega)
  | ⟨1, _⟩ => exact Fin.ext (by show 0 * _ + 1 * (j 1).val = (j 1).val; omega)

theorem read0_1 (c : Dev nD) (t : Fin cfg0.N) (G : Buf (Elt F) ((c : Thread nD τ).loc main_v1_0)) : ((cfg0.win 1).blk t).view.read (Elt F) G = G := by
  obtain rfl := fin_N0 t
  funext j
  refine congrArg G (funext fun a => ?_)
  match a with
  | ⟨0, _⟩ => exact Fin.ext (by show 0 * _ + 1 * (j 0).val = (j 0).val; omega)
  | ⟨1, _⟩ => exact Fin.ext (by show 0 * _ + 1 * (j 1).val = (j 1).val; omega)

theorem read0_2 (c : Dev nD) (t : Fin cfg0.N) (G : Buf (Elt F) ((c : Thread nD τ).loc main_v1_1)) : ((cfg0.win 2).blk t).view.read (Elt F) G = G := by
  obtain rfl := fin_N0 t
  funext j
  refine congrArg G (funext fun a => ?_)
  match a with
  | ⟨0, _⟩ => exact Fin.ext (by show 0 * _ + 1 * (j 0).val = (j 0).val; omega)
  | ⟨1, _⟩ => exact Fin.ext (by show 0 * _ + 1 * (j 1).val = (j 1).val; omega)
  | ⟨2, _⟩ => exact Fin.ext (by show 0 * _ + 1 * (j 2).val = (j 2).val; omega)

theorem arr0_1 (c : Dev nD) (n b : ℕ) : (dat0 V c n b).arrAt 1 cfg0.N = k0_pay2 (V c main_v0) := by
  refine Dat.arrAt_eq_of_cover (dat := dat0 V c n b) 1 (k0_pay2 (V c main_v0)) (fun t _ => ?_) fun i => ⟨t0_0, flush0_1 _, ?_⟩
  · refine (show (dat0 V c n b).flushed 1 t = k0_pay2 (blk0 V c 0 t) from rfl).trans ?_
    rw [blk0_0, read0_1 c]
  · show i ∈ ((View.whole main_v1_0).slice (win0_1.rect t0_0)).set
    rw [View.set_slice_whole, Rect.mem_set_unit]
    intro a
    match a with
    | ⟨0, _⟩ =>
      have h : (i 0).val < 4 := (i 0).isLt
      show 0 * 4 ≤ (i 0).val ∧ (i 0).val < 0 * 4 + 4
      omega
    | ⟨1, _⟩ =>
      have h : (i 1).val < 16384 := (i 1).isLt
      show 0 * 16384 ≤ (i 1).val ∧ (i 1).val < 0 * 16384 + 16384
      omega

theorem arr0_2 (c : Dev nD) (n b : ℕ) : (dat0 V c n b).arrAt 2 cfg0.N = k0_pay3 (V c main_v0) := by
  refine Dat.arrAt_eq_of_cover (dat := dat0 V c n b) 2 (k0_pay3 (V c main_v0)) (fun t _ => ?_) fun i => ⟨t0_0, flush0_2 _, ?_⟩
  · refine (show (dat0 V c n b).flushed 2 t = k0_pay3 (blk0 V c 0 t) from rfl).trans ?_
    rw [blk0_0, read0_2 c]
  · show i ∈ ((View.whole main_v1_1).slice (win0_2.rect t0_0)).set
    rw [View.set_slice_whole, Rect.mem_set_unit]
    intro a
    match a with
    | ⟨0, _⟩ =>
      have h : (i 0).val < 4 := (i 0).isLt
      show 0 * 4 ≤ (i 0).val ∧ (i 0).val < 0 * 4 + 4
      omega
    | ⟨1, _⟩ =>
      have h : (i 1).val < 8 := (i 1).isLt
      show 0 * 8 ≤ (i 1).val ∧ (i 1).val < 0 * 8 + 8
      omega
    | ⟨2, _⟩ =>
      have h : (i 2).val < 49152 := (i 2).isLt
      show 0 * 49152 ≤ (i 2).val ∧ (i 2).val < 0 * 49152 + 49152
      omega

variable (adm : (p : Fin 3) → (pcfgs (F := F) p).Adm)

/-- The packing region's family. -/
def pd0 (n b : ℕ) : Dats (F := F) adm
  | ⟨0, _⟩ => fun c => dat0 V c n b
  | ⟨1, _⟩ => fun c => idleDat c
  | ⟨2, _⟩ => fun c => idleDat c

theorem fits0 (n b : ℕ) (Vp : Bufs F) (e1 : ∀ c, Vp c main_v1_0 = k0_pay2 (V c main_v0)) (e2 : ∀ c, Vp c main_v1_1 = k0_pay3 (V c main_v0))
    (ne : ∀ c (r : Ref sig .tc), r ≠ main_v1_0 → r ≠ main_v1_1 → Vp c r = V c r) : Fits adm (pd0 V adm n b) 0 n b V Vp where
  A c w := rfl
  Φ0 c := rfl
  Φn c := rfl
  q c w := rfl
  owed c t := rfl
  recorded c t := rfl
  arr c w := by
    match w with
    | ⟨0, _⟩ => exact ((pd0 V adm n b 0 c).arrAt_in 0 rfl _).trans (ne c main_v0 (by decide) (by decide)).symm
    | ⟨1, _⟩ => exact (arr0_1 V c n b).trans (e1 c).symm
    | ⟨2, _⟩ => exact (arr0_2 V c n b).trans (e2 c).symm
  ne c r h := ne c r (fun e => h (Finset.mem_image.mpr ⟨1, Finset.mem_univ _, e.symm⟩)) fun e => h (Finset.mem_image.mpr ⟨2, Finset.mem_univ _, e.symm⟩)
  body c := body0 V c n b

end Cert.Proof.KI

end
-- ==== Proof.KI.Reg3.lean ====
/-
  The combining kernel's region: its data, and what it leaves in the result.
-/
module

public import proofs.«01_k».proof.Proof.KI.Reg0

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic
open Idealize.ShloMosaic.TcCoe
open Idealize.ShloMosaic.Pipeline (Dat BodyObligation cellOf)

variable {F : FTy → Type} [FloatOps F]

local notation "𝕄" => MT nD τ sig (HIx 1) (Elt F) ℕ UU ℕ

/-- Rows `1024t … 1024t+1023` of a table of `8192`. -/
def rowBlk {w : ℕ} (x : FVec F ⟨2, ![8192, w]⟩ .f32) (t : ℕ) : FVec F ⟨2, ![1024, w]⟩ .f32 :=
  fun j => x (ix2 (Fin.ofNat 8192 (1024 * t + (j 0).val)) (j 1))

/-- A table given by its blocks of `1024` rows. -/
def byBlocks {w : ℕ} (f : ℕ → FVec F ⟨2, ![1024, w]⟩ .f32) : FVec F ⟨2, ![8192, w]⟩ .f32 :=
  fun i => f ((i 0).val / 1024) (ix2 (Fin.ofNat 1024 (i 0).val) (i 1))

theorem rowBlk_byBlocks {w : ℕ} (f : ℕ → FVec F ⟨2, ![1024, w]⟩ .f32) (t : ℕ) (ht : t < 8) : rowBlk (byBlocks f) t = f t := by
  funext j
  have hj : (j 0).val < 1024 := (j 0).isLt
  show f ((1024 * t + (j 0).val) % 8192 / 1024) (ix2 (Fin.ofNat 1024 ((1024 * t + (j 0).val) % 8192)) (j 1)) = f t j
  rw [show (1024 * t + (j 0).val) % 8192 / 1024 = t by omega]
  refine congrArg (f t) ?_
  funext a
  match a with
  | ⟨0, _⟩ => exact Fin.ext (by show (1024 * t + (j 0).val) % 8192 % 1024 = (j 0).val; omega)
  | ⟨1, _⟩ => rfl

variable (V : Bufs F)

/-- A window's block of its array at a point. -/
abbrev blk3 (c : Dev nD) (w : Fin cfg3.W) (t : Fin cfg3.N) := ((cfg3.win w).blk t).view.read (Elt F) (V c (Pipeline.arrRef spec3 w))

/-- The combining region's data from the contents `V`. -/
def dat3 (c : Dev nD) (n b : ℕ) : Dat τ (Elt F) (HIx 1) ℕ UU ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => k3_pay1 (blk3 V c 0 t) (blk3 V c 1 t) (blk3 V c 2 t)
  Φ _ := Pipeline.scopedRest (Ix := HIx 1) (Name := ℕ) (U := UU) (Lvl := ℕ) (Val := Elt F) cfg3.spec c
  q _ := fullShare
  owed _ := (K (F := F)).Otc c n
  recorded _ := recd (F := F) c b

theorem before3_0 (c : Dev nD) (n b : ℕ) (t : Fin cfg3.N) (d : (cfg3.win 0).block.Idx → Elt F (cfg3.win 0).elt) : (dat3 V c n b).before 0 t d = blk3 V c 0 t := by
  unfold Dat.before; rw [if_pos (fetch3_0 t)]; rfl

theorem before3_1 (c : Dev nD) (n b : ℕ) (t : Fin cfg3.N) (d : (cfg3.win 1).block.Idx → Elt F (cfg3.win 1).elt) : (dat3 V c n b).before 1 t d = blk3 V c 1 t := by
  unfold Dat.before; rw [if_pos (fetch3_1 t)]; rfl

theorem before3_2 (c : Dev nD) (n b : ℕ) (t : Fin cfg3.N) (d : (cfg3.win 2).block.Idx → Elt F (cfg3.win 2).elt) : (dat3 V c n b).before 2 t d = blk3 V c 2 t := by
  unfold Dat.before; rw [if_pos (fetch3_2 t)]; rfl

theorem body3 (c : Dev nD) (n b : ℕ) : BodyObligation (dat3 V c n b) (defs₀ (F := F)) 𝒱₀ none Set.univ := fun t => by
  rw [bigSep_W3, bigSep_W3]
  rw [show (dat3 V c n b).owesAt none t.succ = (dat3 V c n b).owesAt none t.castSucc from rfl]
  rw [show (dat3 V c n b).Φ t.castSucc = Pipeline.scopedRest spec3 c from rfl, show (dat3 V c n b).Φ t.succ = Pipeline.scopedRest spec3 c from rfl]
  have h0 : ((cfg3.win 0).stage (cfg3.slots t 0)).IsWhole := stage_whole3 0 _
  have h1 : ((cfg3.win 1).stage (cfg3.slots t 1)).IsWhole := stage_whole3 1 _
  have h2 : ((cfg3.win 2).stage (cfg3.slots t 2)).IsWhole := stage_whole3 2 _
  have h3 : ((cfg3.win 3).stage (cfg3.slots t 3)).IsWhole := stage_whole3 3 _
  dsimp only
  simp only [before3_0, before3_1, before3_2]
  iintro ⟨HΦ, Howes, ⟨%d0, H0⟩, ⟨%d1, H1⟩, ⟨%d2, H2⟩, ⟨%d3, H3⟩⟩
  ihave H0 := owns_open c _ h0 _ $$ [H0]
  · iexact H0
  icases H0 with ⟨%f0, %hf0, H0⟩
  ihave H1 := owns_open c _ h1 _ $$ [H1]
  · iexact H1
  icases H1 with ⟨%f1, %hf1, H1⟩
  ihave H2 := owns_open c _ h2 _ $$ [H2]
  · iexact H2
  icases H2 with ⟨%f2, %hf2, H2⟩
  ihave H3 := owns_open c _ h3 _ $$ [H3]
  · iexact H3
  icases H3 with ⟨%f3, -, H3⟩
  iapply (wp_wand_r frame (wpE (defs₀ (F := F)) 𝒱₀ (c : Thread nD τ) none) Set.univ)
  isplitl [H0 H1 H2 H3]
  · iapply (combine_run c (grid3.coords t) _ h0 _ h1 _ h2 _ h3 f0 f1 f2 f3)
    isplitl [H0]
    · iexact H0
    isplitl [H1]
    · iexact H1
    isplitl [H2]
    · iexact H2
    iexact H3
  iintro %r ⟨H0, H1, H2, ⟨%g3, H3, %e3⟩⟩
  rw [hf0, hf1, hf2] at e3
  isplitl [HΦ]
  · iexact HΦ
  isplitl [Howes]
  · iexact Howes
  isplitl [H0]
  · iapply (owns_close c _ h0 _ f0 hf0)
    iexact H0
  isplitl [H1]
  · iapply (owns_close c _ h1 _ f1 hf1)
    iexact H1
  isplitl [H2]
  · iapply (owns_close c _ h2 _ f2 hf2)
    iexact H2
  · iapply (owns_close c _ h3 _ g3 e3)
    iexact H3

theorem index3_0 : ∀ t : Fin grid3.N, win3_0.index t = ![t.val, 0] := by decide +kernel

theorem read3_0 (c : Dev nD) (t : Fin cfg3.N) (G : Buf (Elt F) ((c : Thread nD τ).loc main_arg0)) : ((cfg3.win 0).blk t).view.read (Elt F) G = rowBlk (w := 3) G t.val := by
  funext j
  refine congrArg G (funext fun a => ?_)
  have e := index3_0 t
  have e1 := congrFun e 1
  have e := congrFun e 0
  match a with
  | ⟨0, _⟩ =>
    refine Fin.ext ?_
    have hj : (j 0).val < 1024 := (j 0).isLt
    have ht : t.val < 8 := t.isLt
    show win3_0.index t 0 * 1024 + 1 * (j 0).val = (1024 * t.val + (j 0).val) % 8192
    rw [e]
    show t.val * 1024 + 1 * (j 0).val = (1024 * t.val + (j 0).val) % 8192
    omega
  | ⟨1, _⟩ =>
    refine Fin.ext ?_
    show win3_0.index t 1 * 3 + 1 * (j 1).val = (j 1).val
    rw [e1]
    show 0 * 3 + 1 * (j 1).val = (j 1).val
    omega

theorem index3_1 : ∀ t : Fin grid3.N, win3_1.index t = ![t.val, 0] := by decide +kernel

theorem read3_1 (c : Dev nD) (t : Fin cfg3.N) (G : Buf (Elt F) ((c : Thread nD τ).loc main_v5)) : ((cfg3.win 1).blk t).view.read (Elt F) G = rowBlk (w := 1) G t.val := by
  funext j
  refine congrArg G (funext fun a => ?_)
  have e := index3_1 t
  have e1 := congrFun e 1
  have e := congrFun e 0
  match a with
  | ⟨0, _⟩ =>
    refine Fin.ext ?_
    have hj : (j 0).val < 1024 := (j 0).isLt
    have ht : t.val < 8 := t.isLt
    show win3_1.index t 0 * 1024 + 1 * (j 0).val = (1024 * t.val + (j 0).val) % 8192
    rw [e]
    show t.val * 1024 + 1 * (j 0).val = (1024 * t.val + (j 0).val) % 8192
    omega
  | ⟨1, _⟩ =>
    refine Fin.ext ?_
    show win3_1.index t 1 * 1 + 1 * (j 1).val = (j 1).val
    rw [e1]
    show 0 * 1 + 1 * (j 1).val = (j 1).val
    omega

theorem index3_2 : ∀ t : Fin grid3.N, win3_2.index t = ![t.val, 0] := by decide +kernel

theorem read3_2 (c : Dev nD) (t : Fin cfg3.N) (G : Buf (Elt F) ((c : Thread nD τ).loc main_v4)) : ((cfg3.win 2).blk t).view.read (Elt F) G = rowBlk (w := 16) G t.val := by
  funext j
  refine congrArg G (funext fun a => ?_)
  have e := index3_2 t
  have e1 := congrFun e 1
  have e := congrFun e 0
  match a with
  | ⟨0, _⟩ =>
    refine Fin.ext ?_
    have hj : (j 0).val < 1024 := (j 0).isLt
    have ht : t.val < 8 := t.isLt
    show win3_2.index t 0 * 1024 + 1 * (j 0).val = (1024 * t.val + (j 0).val) % 8192
    rw [e]
    show t.val * 1024 + 1 * (j 0).val = (1024 * t.val + (j 0).val) % 8192
    omega
  | ⟨1, _⟩ =>
    refine Fin.ext ?_
    show win3_2.index t 1 * 16 + 1 * (j 1).val = (j 1).val
    rw [e1]
    show 0 * 16 + 1 * (j 1).val = (j 1).val
    omega

theorem index3_3 : ∀ t : Fin grid3.N, win3_3.index t = ![t.val, 0] := by decide +kernel

theorem read3_3 (c : Dev nD) (t : Fin cfg3.N) (G : Buf (Elt F) ((c : Thread nD τ).loc main_v6)) : ((cfg3.win 3).blk t).view.read (Elt F) G = rowBlk (w := 1) G t.val := by
  funext j
  refine congrArg G (funext fun a => ?_)
  have e := index3_3 t
  have e1 := congrFun e 1
  have e := congrFun e 0
  match a with
  | ⟨0, _⟩ =>
    refine Fin.ext ?_
    have hj : (j 0).val < 1024 := (j 0).isLt
    have ht : t.val < 8 := t.isLt
    show win3_3.index t 0 * 1024 + 1 * (j 0).val = (1024 * t.val + (j 0).val) % 8192
    rw [e]
    show t.val * 1024 + 1 * (j 0).val = (1024 * t.val + (j 0).val) % 8192
    omega
  | ⟨1, _⟩ =>
    refine Fin.ext ?_
    show win3_3.index t 1 * 1 + 1 * (j 1).val = (j 1).val
    rw [e1]
    show 0 * 1 + 1 * (j 1).val = (j 1).val
    omega

theorem cover3_3 (i : S8192x1.Idx) : ∃ t : Fin cfg3.N, (cfg3.win 3).flush t = true ∧ i ∈ ((cfg3.win 3).blk t).view.set := by
  have h0 : (i 0).val < 8192 := (i 0).isLt
  have h1 : (i 1).val < 1 := (i 1).isLt
  have hd : (i 0).val / 1024 < cfg3.N := (by omega : (i 0).val / 1024 < 8)
  refine ⟨⟨(i 0).val / 1024, hd⟩, flush3_3 _, ?_⟩
  show i ∈ ((View.whole main_v6).slice (win3_3.rect ⟨(i 0).val / 1024, hd⟩)).set
  rw [View.set_slice_whole, Rect.mem_set_unit]
  have e := index3_3 ⟨(i 0).val / 1024, hd⟩
  have e1 := congrFun e 1
  have e := congrFun e 0
  intro a
  match a with
  | ⟨0, _⟩ =>
    show win3_3.index ⟨(i 0).val / 1024, hd⟩ 0 * 1024 ≤ (i 0).val ∧ (i 0).val < win3_3.index ⟨(i 0).val / 1024, hd⟩ 0 * 1024 + 1024
    rw [e]
    show (i 0).val / 1024 * 1024 ≤ (i 0).val ∧ (i 0).val < (i 0).val / 1024 * 1024 + 1024
    omega
  | ⟨1, _⟩ =>
    show win3_3.index ⟨(i 0).val / 1024, hd⟩ 1 * 1 ≤ (i 1).val ∧ (i 1).val < win3_3.index ⟨(i 0).val / 1024, hd⟩ 1 * 1 + 1
    rw [e1]
    show 0 * 1 ≤ (i 1).val ∧ (i 1).val < 0 * 1 + 1
    omega

/-- The combined result from the queries, the TensorCore's maxima and the SparseCore's. -/
def combined (x : FVec F S8192x3 .f32) (u : FVec F S8192x1 .f32) (s : FVec F S8192x16 .f32) : FVec F S8192x1 .f32 :=
  byBlocks fun t => k3_pay1 (rowBlk x t) (rowBlk u t) (rowBlk s t)

theorem arr3_3 (c : Dev nD) (n b : ℕ) : (dat3 V c n b).arrAt 3 cfg3.N = combined (V c main_arg0) (V c main_v5) (V c main_v4) := by
  refine Dat.arrAt_eq_of_cover (dat := dat3 V c n b) 3 (combined (V c main_arg0) (V c main_v5) (V c main_v4)) (fun t _ => ?_) fun i => cover3_3 i
  refine (show (dat3 V c n b).flushed 3 t = k3_pay1 (blk3 V c 0 t) (blk3 V c 1 t) (blk3 V c 2 t) from rfl).trans ?_
  have e0 : blk3 V c 0 t = rowBlk (w := 3) (V c main_arg0) t.val := read3_0 c t _
  have e1 : blk3 V c 1 t = rowBlk (w := 1) (V c main_v5) t.val := read3_1 c t _
  have e2 : blk3 V c 2 t = rowBlk (w := 16) (V c main_v4) t.val := read3_2 c t _
  rw [e0, e1, e2]
  exact ((read3_3 c t _).trans (rowBlk_byBlocks (fun t => k3_pay1 (rowBlk (w := 3) (V c main_arg0) t) (rowBlk (w := 1) (V c main_v5) t) (rowBlk (w := 16) (V c main_v4) t)) t.val t.isLt)).symm

variable (adm : (p : Fin 3) → (pcfgs (F := F) p).Adm)

theorem rest_congr {cfg cfg' : Pipeline.Cfg sig Λ₀} (h : cfg = cfg') (c : Dev nD) :
    (Pipeline.scopedRest (Ix := HIx 1) (Name := ℕ) (U := UU) (Lvl := ℕ) (Val := Elt F) cfg.spec c : sProp 𝕄) = Pipeline.scopedRest cfg'.spec c := by
  rw [h]

theorem pin3 : Pipeline.pin (pcfgs (F := F)) adm 2 = cfg3 := rfl

/-- The combining region's family. -/
def pd3 (n b : ℕ) : Dats (F := F) adm
  | ⟨0, _⟩ => fun c => idleDat c
  | ⟨1, _⟩ => fun c => idleDat c
  | ⟨2, _⟩ => fun c => dat3 V c n b

theorem pd3_arr (n b : ℕ) (Vp : Bufs F) (e : ∀ c, Vp c main_v6 = combined (V c main_arg0) (V c main_v5) (V c main_v4))
    (ne : ∀ c (r : Ref sig .tc), r ≠ main_v6 → Vp c r = V c r) (c : Dev nD) : ∀ w : Fin cfg3.W, (dat3 V c n b).arrAt w cfg3.N = Vp c (Pipeline.arrRef spec3 w)
  | ⟨0, _⟩ => ((dat3 V c n b).arrAt_in 0 rfl _).trans (ne c main_arg0 (by decide)).symm
  | ⟨1, _⟩ => ((dat3 V c n b).arrAt_in 1 rfl _).trans (ne c main_v5 (by decide)).symm
  | ⟨2, _⟩ => ((dat3 V c n b).arrAt_in 2 rfl _).trans (ne c main_v4 (by decide)).symm
  | ⟨3, _⟩ => (arr3_3 V c n b).trans (e c).symm

theorem fits3 (n b : ℕ) (Vp : Bufs F) (e : ∀ c, Vp c main_v6 = combined (V c main_arg0) (V c main_v5) (V c main_v4))
    (ne : ∀ c (r : Ref sig .tc), r ≠ main_v6 → Vp c r = V c r) : Fits adm (pd3 V adm n b) 2 n b V Vp where
  A c w := rfl
  Φ0 c := (show (pd3 V adm n b 2 c).Φ 0 = (dat3 V c n b).Φ 0 from rfl).trans (rest_congr (pin3 adm).symm c)
  Φn c := (show (pd3 V adm n b 2 c).Φ (Fin.last _) = (dat3 V c n b).Φ (Fin.last _) from rfl).trans (rest_congr (pin3 adm).symm c)
  q c w := rfl
  owed c t := rfl
  recorded c t := rfl
  arr c w := pd3_arr V n b Vp e ne c w
  ne c r h := ne c r fun e => h (Finset.mem_image.mpr ⟨3, Finset.mem_univ _, e.symm⟩)
  body c := body3 V c n b

end Cert.Proof.KI

end
-- ==== Proof.KI.Reg2.lean ====
/-
  The TensorCore search's region: its data, and what it leaves in the maxima.
-/
module

public import proofs.«01_k».proof.Proof.KI.Reg3

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic
open Idealize.ShloMosaic.TcCoe
open Idealize.ShloMosaic.Pipeline (Dat BodyObligation cellOf)

variable {F : FTy → Type} [FloatOps F]

local notation "𝕄" => MT nD τ sig (HIx 1) (Elt F) ℕ UU ℕ

variable (V : Bufs F)

/-- A window's block of its array at a point. -/
abbrev blk2 (c : Dev nD) (w : Fin cfg2.W) (t : Fin cfg2.N) := ((cfg2.win w).blk t).view.read (Elt F) (V c (Pipeline.arrRef spec2 w))

/-- The search region's data from the contents `V`. -/
def dat2 (c : Dev nD) (n b : ℕ) : Dat τ (Elt F) (HIx 1) ℕ UU ℕ cfg2 c where
  A w := V c (Pipeline.arrRef spec2 w)
  after w t := match w with
    | ⟨0, _⟩ => blk2 V c 0 t
    | ⟨1, _⟩ => blk2 V c 1 t
    | ⟨2, _⟩ => k2_pay10 (accTab (blk2 V c 0 t) (V c main_v1_1))
  Φ _ := Pipeline.scopedRest (Ix := HIx 1) (Name := ℕ) (U := UU) (Lvl := ℕ) (Val := Elt F) cfg2.spec c
  q _ := fullShare
  owed _ := (K (F := F)).Otc c n
  recorded _ := recd (F := F) c b

theorem after2_2 (c : Dev nD) (n b : ℕ) (t : Fin cfg2.N) : (dat2 V c n b).after 2 t = k2_pay10 (accTab (blk2 V c 0 t) (V c main_v1_1)) := by
  dsimp only [dat2]

theorem read2_1 (c : Dev nD) (t : Fin cfg2.N) (G : Buf (Elt F) ((c : Thread nD τ).loc main_v1_1)) : ((cfg2.win 1).blk t).view.read (Elt F) G = G := by
  funext j
  refine congrArg G (funext fun a => ?_)
  match a with
  | ⟨0, _⟩ => exact Fin.ext (by show 0 * _ + 1 * (j 0).val = (j 0).val; omega)
  | ⟨1, _⟩ => exact Fin.ext (by show 0 * _ + 1 * (j 1).val = (j 1).val; omega)
  | ⟨2, _⟩ => exact Fin.ext (by show 0 * _ + 1 * (j 2).val = (j 2).val; omega)

theorem blk2_1 (c : Dev nD) (t : Fin cfg2.N) : blk2 V c 1 t = V c main_v1_1 := read2_1 c t _

theorem before2_0 (c : Dev nD) (n b : ℕ) (t : Fin cfg2.N) (d : (cfg2.win 0).block.Idx → Elt F (cfg2.win 0).elt) : (dat2 V c n b).before 0 t d = blk2 V c 0 t := by
  unfold Dat.before; rw [if_pos (fetch2_0 t)]; rfl

theorem before2_1 (c : Dev nD) (n b : ℕ) (t : Fin cfg2.N) (d : (cfg2.win 1).block.Idx → Elt F (cfg2.win 1).elt) : (dat2 V c n b).before 1 t d = blk2 V c 1 t := by
  by_cases h : (cfg2.win 1).fetch t = true
  · unfold Dat.before; rw [if_pos h]; rfl
  · have ht : t.val ≠ 0 := fun e => h ((fetch2_1 t).mpr (by rw [e]))
    rw [Dat.before_of_pos _ 1 t ht (Bool.eq_false_iff.mpr h) d, (cfg2.win 1).flush_in rfl, if_neg Bool.false_ne_true]
    exact (blk2_1 V c _).trans (blk2_1 V c t).symm

theorem body2 (c : Dev nD) (n b : ℕ) : BodyObligation (dat2 V c n b) (defs₀ (F := F)) 𝒱₀ none Set.univ := fun t => by
  rw [bigSep_W2, bigSep_W2]
  rw [show (dat2 V c n b).owesAt none t.succ = (dat2 V c n b).owesAt none t.castSucc from rfl]
  rw [show (dat2 V c n b).Φ t.castSucc = Pipeline.scopedRest spec2 c from rfl, show (dat2 V c n b).Φ t.succ = Pipeline.scopedRest spec2 c from rfl, scopedRest2_eq c]
  have h0 : ((cfg2.win 0).stage (cfg2.slots t 0)).IsWhole := stage_whole2 0 _
  have h1 : ((cfg2.win 1).stage (cfg2.slots t 1)).IsWhole := stage_whole2 1 _
  have h2 : ((cfg2.win 2).stage (cfg2.slots t 2)).IsWhole := stage_whole2 2 _
  dsimp only
  simp only [before2_0, before2_1]
  iintro ⟨⟨Ha, Hb, Hc, ⟨%s0, S0⟩, ⟨%s1, S1⟩, ⟨%s2, S2⟩, ⟨%s3, S3⟩, Hrest⟩, Howes, ⟨%d0, H0⟩, ⟨%d1, H1⟩, ⟨%d2, H2⟩⟩
  ihave H0 := owns_open c _ h0 _ $$ [H0]
  · iexact H0
  icases H0 with ⟨%f0, %hf0, H0⟩
  ihave H1 := owns_open c _ h1 _ $$ [H1]
  · iexact H1
  icases H1 with ⟨%f1, %hf1, H1⟩
  ihave H2 := owns_open c _ h2 _ $$ [H2]
  · iexact H2
  icases H2 with ⟨%f2, -, H2⟩
  iapply (wp_wand_r frame (wpE (defs₀ (F := F)) 𝒱₀ (c : Thread nD τ) none) Set.univ)
  isplitl [H0 H1 H2 S0 S1 S2 S3]
  · iapply (nn_run c (grid2.coords t) _ h0 _ h1 _ h2 (Memref.whole cc2_scratch0) (Memref.isWhole_whole _) (Memref.whole cc2_scratch1) (Memref.isWhole_whole _)
      (Memref.whole cc2_scratch2) (Memref.isWhole_whole _) (Memref.whole cc2_scratch3) (Memref.isWhole_whole _) f0 f1 f2 s0 s1 s2 s3)
    isplitl [H0]
    · iexact H0
    isplitl [H1]
    · iexact H1
    isplitl [H2]
    · iexact H2
    isplitl [S0]
    · iexact S0
    isplitl [S1]
    · iexact S1
    isplitl [S2]
    · iexact S2
    iexact S3
  iintro %r ⟨H0, H1, ⟨%g2, H2, %e2⟩, S0, S1, S2, S3⟩
  rw [hf0, hf1.trans (blk2_1 V c t)] at e2
  isplitl [Ha Hb Hc S0 S1 S2 S3 Hrest]
  · isplitl [Ha]
    · iexact Ha
    isplitl [Hb]
    · iexact Hb
    isplitl [Hc]
    · iexact Hc
    isplitl [S0]
    · iexact S0
    isplitl [S1]
    · iexact S1
    isplitl [S2]
    · iexact S2
    isplitl [S3]
    · iexact S3
    iexact Hrest
  isplitl [Howes]
  · iexact Howes
  isplitl [H0]
  · iapply (owns_close c _ h0 _ f0 hf0)
    iexact H0
  isplitl [H1]
  · iapply (owns_close c _ h1 _ f1 hf1)
    iexact H1
  · iapply (owns_close c _ h2 _ g2 (e2.trans (after2_2 V c n b t).symm))
    iexact H2

theorem index2_0 : ∀ t : Fin grid2.N, win2_0.index t = ![t.val, 0] := by decide +kernel

theorem read2_0 (c : Dev nD) (t : Fin cfg2.N) (G : Buf (Elt F) ((c : Thread nD τ).loc main_arg0)) : ((cfg2.win 0).blk t).view.read (Elt F) G = rowBlk (w := 3) G t.val := by
  funext j
  refine congrArg G (funext fun a => ?_)
  have e := index2_0 t
  have e1 := congrFun e 1
  have e := congrFun e 0
  match a with
  | ⟨0, _⟩ =>
    refine Fin.ext ?_
    have hj : (j 0).val < 1024 := (j 0).isLt
    have ht : t.val < 8 := t.isLt
    show win2_0.index t 0 * 1024 + 1 * (j 0).val = (1024 * t.val + (j 0).val) % 8192
    rw [e]
    show t.val * 1024 + 1 * (j 0).val = (1024 * t.val + (j 0).val) % 8192
    omega
  | ⟨1, _⟩ =>
    refine Fin.ext ?_
    show win2_0.index t 1 * 3 + 1 * (j 1).val = (j 1).val
    rw [e1]
    show 0 * 3 + 1 * (j 1).val = (j 1).val
    omega

theorem index2_2 : ∀ t : Fin grid2.N, win2_2.index t = ![t.val, 0] := by decide +kernel

theorem read2_2 (c : Dev nD) (t : Fin cfg2.N) (G : Buf (Elt F) ((c : Thread nD τ).loc main_v5)) : ((cfg2.win 2).blk t).view.read (Elt F) G = rowBlk (w := 1) G t.val := by
  funext j
  refine congrArg G (funext fun a => ?_)
  have e := index2_2 t
  have e1 := congrFun e 1
  have e := congrFun e 0
  match a with
  | ⟨0, _⟩ =>
    refine Fin.ext ?_
    have hj : (j 0).val < 1024 := (j 0).isLt
    have ht : t.val < 8 := t.isLt
    show win2_2.index t 0 * 1024 + 1 * (j 0).val = (1024 * t.val + (j 0).val) % 8192
    rw [e]
    show t.val * 1024 + 1 * (j 0).val = (1024 * t.val + (j 0).val) % 8192
    omega
  | ⟨1, _⟩ =>
    refine Fin.ext ?_
    show win2_2.index t 1 * 1 + 1 * (j 1).val = (j 1).val
    rw [e1]
    show 0 * 1 + 1 * (j 1).val = (j 1).val
    omega

theorem cover2_2 (i : S8192x1.Idx) : ∃ t : Fin cfg2.N, (cfg2.win 2).flush t = true ∧ i ∈ ((cfg2.win 2).blk t).view.set := by
  have h0 : (i 0).val < 8192 := (i 0).isLt
  have h1 : (i 1).val < 1 := (i 1).isLt
  have hd : (i 0).val / 1024 < cfg2.N := (by omega : (i 0).val / 1024 < 8)
  refine ⟨⟨(i 0).val / 1024, hd⟩, flush2_2 _, ?_⟩
  show i ∈ ((View.whole main_v5).slice (win2_2.rect ⟨(i 0).val / 1024, hd⟩)).set
  rw [View.set_slice_whole, Rect.mem_set_unit]
  have e := index2_2 ⟨(i 0).val / 1024, hd⟩
  have e1 := congrFun e 1
  have e := congrFun e 0
  intro a
  match a with
  | ⟨0, _⟩ =>
    show win2_2.index ⟨(i 0).val / 1024, hd⟩ 0 * 1024 ≤ (i 0).val ∧ (i 0).val < win2_2.index ⟨(i 0).val / 1024, hd⟩ 0 * 1024 + 1024
    rw [e]
    show (i 0).val / 1024 * 1024 ≤ (i 0).val ∧ (i 0).val < (i 0).val / 1024 * 1024 + 1024
    omega
  | ⟨1, _⟩ =>
    show win2_2.index ⟨(i 0).val / 1024, hd⟩ 1 * 1 ≤ (i 1).val ∧ (i 1).val < win2_2.index ⟨(i 0).val / 1024, hd⟩ 1 * 1 + 1
    rw [e1]
    show 0 * 1 ≤ (i 1).val ∧ (i 1).val < 0 * 1 + 1
    omega

/-- The TensorCore's maxima from the queries and its points. -/
def searched (x : FVec F S8192x3 .f32) (o : FVec F S4x8x49152 .f32) : FVec F S8192x1 .f32 :=
  byBlocks fun t => k2_pay10 (accTab (rowBlk x t) o)

theorem arr2_2 (c : Dev nD) (n b : ℕ) : (dat2 V c n b).arrAt 2 cfg2.N = searched (V c main_arg0) (V c main_v1_1) := by
  refine Dat.arrAt_eq_of_cover (dat := dat2 V c n b) 2 (searched (V c main_arg0) (V c main_v1_1)) (fun t _ => ?_) fun i => cover2_2 i
  refine (show (dat2 V c n b).flushed 2 t = (dat2 V c n b).after 2 t from rfl).trans ?_
  rw [after2_2]
  have e0 : blk2 V c 0 t = rowBlk (w := 3) (V c main_arg0) t.val := read2_0 c t _
  rw [e0]
  exact ((read2_2 c t _).trans (rowBlk_byBlocks (fun t => k2_pay10 (accTab (rowBlk (w := 3) (V c main_arg0) t) (V c main_v1_1))) t.val t.isLt)).symm

variable (adm : (p : Fin 3) → (pcfgs (F := F) p).Adm)

theorem pin2 : Pipeline.pin (pcfgs (F := F)) adm 1 = cfg2 := rfl

/-- The search region's family. -/
def pd2 (n b : ℕ) : Dats (F := F) adm
  | ⟨0, _⟩ => fun c => idleDat c
  | ⟨1, _⟩ => fun c => dat2 V c n b
  | ⟨2, _⟩ => fun c => idleDat c

theorem pd2_arr (n b : ℕ) (Vp : Bufs F) (e : ∀ c, Vp c main_v5 = searched (V c main_arg0) (V c main_v1_1))
    (ne : ∀ c (r : Ref sig .tc), r ≠ main_v5 → Vp c r = V c r) (c : Dev nD) : ∀ w : Fin cfg2.W, (dat2 V c n b).arrAt w cfg2.N = Vp c (Pipeline.arrRef spec2 w)
  | ⟨0, _⟩ => ((dat2 V c n b).arrAt_in 0 rfl _).trans (ne c main_arg0 (by decide)).symm
  | ⟨1, _⟩ => ((dat2 V c n b).arrAt_in 1 rfl _).trans (ne c main_v1_1 (by decide)).symm
  | ⟨2, _⟩ => (arr2_2 V c n b).trans (e c).symm

theorem fits2 (n b : ℕ) (Vp : Bufs F) (e : ∀ c, Vp c main_v5 = searched (V c main_arg0) (V c main_v1_1))
    (ne : ∀ c (r : Ref sig .tc), r ≠ main_v5 → Vp c r = V c r) : Fits adm (pd2 V adm n b) 1 n b V Vp where
  A c w := rfl
  Φ0 c := (show (pd2 V adm n b 1 c).Φ 0 = (dat2 V c n b).Φ 0 from rfl).trans (rest_congr (pin2 adm).symm c)
  Φn c := (show (pd2 V adm n b 1 c).Φ (Fin.last _) = (dat2 V c n b).Φ (Fin.last _) from rfl).trans (rest_congr (pin2 adm).symm c)
  q c w := rfl
  owed c t := rfl
  recorded c t := rfl
  arr c w := pd2_arr V n b Vp e ne c w
  ne c r h := ne c r fun e => h (Finset.mem_image.mpr ⟨2, Finset.mem_univ _, e.symm⟩)
  body c := body2 V c n b

end Cert.Proof.KI

end
-- ==== Proof.KI.Trip.lean ====
/-
  One trip of the tile kernel's inner loop: sixteen lanes of the packed table read, and each of four running maxima
  raised by the value at its own query.
-/
module

public import proofs.«01_k».proof.Proof.KI.Setup
public import proofs.«01_k».proof.Proof.KI.Spec

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F]

local notation "𝕄" => MT nD τ sig (HIx 1) (Elt F) ℕ UU ℕ

abbrev xV : Memref sig .scVector .hbm S4x8192 .f32 := Memref.whole main_v3_scv
abbrev pV : Memref sig .scVector .hbm S4x16384 .f32 := Memref.whole main_v1_0_scv
abbrev uV : Memref sig .scVector .hbm S8192x16 .f32 := Memref.whole main_v4_scv
abbrev xS : Memref sig .scVector .vmem S4x256 .f32 := Memref.whole cc1_scratch0
abbrev pS : Memref sig .scVector .vmem S4x16384 .f32 := Memref.whole cc1_scratch1
abbrev uS : Memref sig .scVector .vmem S256x16 .f32 := Memref.whole cc1_scratch2

/-- The carried values of an inner loop: one vector of running maxima per query. -/
abbrev Acc4 (F : FTy → Type) : Type := FVec F S16 .f32 × FVec F S16 .f32 × FVec F S16 .f32 × FVec F S16 .f32

/-- Lane `n` of a sixteen-lane vector. -/
abbrev lane (n : Fin 16) : S16.Idx := ix1 n

theorem slices_lane (n : Fin 16) : S16.Slices ![n.val] S1 :=
  ⟨rfl, fun a => match a with | ⟨0, _⟩ => (by have := n.isLt; show n.val + 1 ≤ 16; omega)⟩

/-- Lane `n` of a vector, as the kernel reads it: a one-lane slice and its only element. -/
def pick {α : Type} (x : S16.Idx → α) (n : Fin 16) : α := extractAt ![0] (extractStridedSlice S1 ![n.val] x (slices_lane n)) inpos_S1_p0

theorem pick_eq {α : Type} (n : Fin 16) (x : S16.Idx → α) : pick x n = x (lane n) := by
  refine congrArg x (funext fun a => ?_)
  match a with
  | ⟨0, _⟩ => rfl

/-- One running maximum raised by `x0·p0 + (x1·p1 + (x2·p2 + p3))`, the query's coordinates being lane `n` of each
    vector. -/
def raise (x0 x1 x2 : FVec F S16 .f32) (n : Fin 16) (a : FVec F S16 .f32) (p0 p1 p2 p3 : Vec F S1x16 .f32) : FVec F S16 .f32 :=
  maximumf a (addf (mulf (broadcast S16 (pick x0 n)) (shapeCast S16 p0 shapeCasts_S1x16_S16))
    (addf (mulf (broadcast S16 (pick x1 n)) (shapeCast S16 p1 shapeCasts_S1x16_S16))
      (addf (mulf (broadcast S16 (pick x2 n)) (shapeCast S16 p2 shapeCasts_S1x16_S16)) (shapeCast S16 p3 shapeCasts_S1x16_S16))))

/-- The trip as a program: the four rows read at column `16 k`, the four maxima raised. -/
def trip (i : grid1.Coords) (x0 x1 x2 : FVec F S16 .f32) (e : Fin 4 → Fin 16) :
    Fin k1_t2_loop.trips → Acc4 F → Prog (TpuEff nD τ sig (Elt F) Λ₀ (.scVector ((i 0).castLE hcore1) ((i 1).castLE hsub1))) (Acc4 F) :=
  fun k1_t2 (a0, a1, a2, a3) => do
    let p0 : Vec F S1x16 .f32 ← Prog.lift (.load pS (Rect.unit (s := S4x16384) (k1_off5 k1_t2) S1x16.size (k1_off5_inb k1_t2)).toLoadRect (View.loadsAt_vmem h_S1x16))
    let p1 : Vec F S1x16 .f32 ← Prog.lift (.load pS (Rect.unit (s := S4x16384) (k1_off6 k1_t2) S1x16.size (k1_off6_inb k1_t2)).toLoadRect (View.loadsAt_vmem h_S1x16))
    let p2 : Vec F S1x16 .f32 ← Prog.lift (.load pS (Rect.unit (s := S4x16384) (k1_off7 k1_t2) S1x16.size (k1_off7_inb k1_t2)).toLoadRect (View.loadsAt_vmem h_S1x16))
    let p3 : Vec F S1x16 .f32 ← Prog.lift (.load pS (Rect.unit (s := S4x16384) (k1_off8 k1_t2) S1x16.size (k1_off8_inb k1_t2)).toLoadRect (View.loadsAt_vmem h_S1x16))
    pure (raise x0 x1 x2 (e 0) a0 p0 p1 p2 p3, raise x0 x1 x2 (e 1) a1 p0 p1 p2 p3, raise x0 x1 x2 (e 2) a2 p0 p1 p2 p3, raise x0 x1 x2 (e 3) a3 p0 p1 p2 p3)

section
variable (i : grid1.Coords) (arg2 : Memref sig .scVector .hbm S4x8192 .f32) (harg2 : arg2.IsWhole) (arg3 : Memref sig .scVector .hbm S4x16384 .f32) (harg3 : arg3.IsWhole) (arg4 : Memref sig .scVector .hbm S8192x16 .f32) (harg4 : arg4.IsWhole) (arg5 : Memref sig .scVector .vmem S4x256 .f32) (harg5 : arg5.IsWhole) (harg6 : pS.IsWhole) (arg7 : Memref sig .scVector .vmem S256x16 .f32) (harg7 : arg7.IsWhole) (v5_r0 : DmaSems sig S_) (v5_r1 : DmaSems sig S_) (v5_r2 : DmaSems sig S_) (t : Fin k1_t1_loop.trips) (w : BitVec 32)
  (v8 v12 v16 : Vec F S1x16 .f32)

theorem t2_trip (a : FVec F S16 .f32) (c0 c1 : BitVec 32) :
    k1_t2_body i arg2 harg2 arg3 harg3 arg4 harg4 arg5 harg5 pS harg6 arg7 harg7 v5_r0 v5_r1 v5_r2 t w (k1_pay4 v8) (k1_pay5 v12) (k1_pay6 v16)
      (k1_pay7 v8) (k1_pay8 v12) (k1_pay9 v16) (k1_pay10 v8) (k1_pay11 v12) (k1_pay12 v16) (k1_pay13 v8) (k1_pay14 v12) (k1_pay15 v16) (k1_pay16 v8) (k1_pay17 v12) (k1_pay18 v16) a c0 c1
    = trip i (k1_pay4 v8) (k1_pay5 v12) (k1_pay6 v16) ![0, 1, 2, 3] := rfl

theorem t3_trip (x0 x1 x2 : FVec F S16 .f32) :
    k1_t3_body i arg2 harg2 arg3 harg3 arg4 harg4 arg5 harg5 pS harg6 arg7 harg7 v5_r0 v5_r1 v5_r2 t w x0 x1 x2 (k1_pay32 x0) (k1_pay33 x1) (k1_pay34 x2) (k1_pay35 x0)
    = trip i x0 x1 x2 ![4, 5, 6, 7] := rfl

theorem t4_trip (x0 x1 x2 a : FVec F S16 .f32) :
    k1_t4_body i arg2 harg2 arg3 harg3 arg4 harg4 arg5 harg5 pS harg6 arg7 harg7 v5_r0 v5_r1 v5_r2 t w x0 x1
      (k1_pay49 x0) (k1_pay50 x1) (k1_pay51 x2) (k1_pay52 x0) (k1_pay53 x1) (k1_pay54 x2) (k1_pay55 x0) (k1_pay56 x1) (k1_pay57 x2) (k1_pay58 x0) (k1_pay59 x1) (k1_pay60 x2) a
    = trip i x0 x1 x2 ![8, 9, 10, 11] := rfl

theorem t5_trip (x0 x1 x2 : FVec F S16 .f32) :
    k1_t5_body i arg2 harg2 arg3 harg3 arg4 harg4 arg5 harg5 pS harg6 arg7 harg7 v5_r0 v5_r1 v5_r2 t w x0 x1 x2 (k1_pay74 x0) (k1_pay75 x1)
    = trip i x0 x1 x2 ![12, 13, 14, 15] := rfl

end

/-! ## The trip run -/

variable (d : Dev nD) (i : grid1.Coords)

abbrev cV (i : grid1.Coords) : Fin τ.nSC := (i 0).castLE hcore1
abbrev jV (i : grid1.Coords) : Fin τ.nSub := (i 1).castLE hsub1

abbrev pSPts (f6 : Buf (Elt F) ((V d (cV i) (jV i)).loc cc1_scratch1)) : sProp 𝕄 := (pS).view.loc (V d (cV i) (jV i)) ↦{fullShare} f6

/-- The running maxima of one query, lane by lane, after `n` trips. -/
def maxLanes (x : Fin 3 → F .f32) (f6 : S4x16384.Idx → F .f32) (n : ℕ) : FVec F S16 .f32 := fun l => best x (lanePts f6 (l 0).val) n

/-- Query `n`'s coordinates: lane `n` of the three coordinate vectors. -/
def qry (x0 x1 x2 : FVec F S16 .f32) (n : Fin 16) : Fin 3 → F .f32 := ![x0 (lane n), x1 (lane n), x2 (lane n)]

/-- The four carried vectors after `n` trips. -/
def accAt (x0 x1 x2 : FVec F S16 .f32) (e : Fin 4 → Fin 16) (f6 : S4x16384.Idx → F .f32) (n : ℕ) : Acc4 F :=
  (maxLanes (qry x0 x1 x2 (e 0)) f6 n, maxLanes (qry x0 x1 x2 (e 1)) f6 n, maxLanes (qry x0 x1 x2 (e 2)) f6 n, maxLanes (qry x0 x1 x2 (e 3)) f6 n)

/-- A row of the packed table read at sixteen columns. -/
theorem shapeCast_p (f : S4x16384.Idx → F .f32) (off : Fin 2 → ℕ) (hin : ∀ a, off a + S1x16.size a ≤ S4x16384.size a) (c : Fin 4) (n : ℕ) (hoff : off = ![c.val, n]) (l : Fin 16) :
    shapeCast S16 (fun x => f ((Rect.unit (s := S4x16384) off S1x16.size hin).emb x)) shapeCasts_S1x16_S16 (ix1 l) = pt4 (w := 16384) f c (n + l.val) :=
  shapeCast_row (w := 16384) f off hin c n hoff l

theorem raise_rows (f6 : S4x16384.Idx → F .f32) (x0 x1 x2 : FVec F S16 .f32) (n : Fin 16) (k : ℕ) (p0 p1 p2 p3 : Vec F S1x16 .f32)
    (h0 : ∀ l : Fin 16, shapeCast S16 p0 shapeCasts_S1x16_S16 (ix1 l) = pt4 (w := 16384) f6 0 (16 * k + l.val))
    (h1 : ∀ l : Fin 16, shapeCast S16 p1 shapeCasts_S1x16_S16 (ix1 l) = pt4 (w := 16384) f6 1 (16 * k + l.val))
    (h2 : ∀ l : Fin 16, shapeCast S16 p2 shapeCasts_S1x16_S16 (ix1 l) = pt4 (w := 16384) f6 2 (16 * k + l.val))
    (h3 : ∀ l : Fin 16, shapeCast S16 p3 shapeCasts_S1x16_S16 (ix1 l) = pt4 (w := 16384) f6 3 (16 * k + l.val)) :
    raise x0 x1 x2 n (maxLanes (qry x0 x1 x2 n) f6 k) p0 p1 p2 p3 = maxLanes (qry x0 x1 x2 n) f6 (k + 1) := by
  funext l
  obtain ⟨l, rfl⟩ : ∃ j, l = ix1 j := ⟨l 0, eq_ix1 l⟩
  show FloatOps.maximumf _ (FloatOps.addf (FloatOps.mulf (pick x0 n) (shapeCast S16 p0 shapeCasts_S1x16_S16 (ix1 l))) (FloatOps.addf (FloatOps.mulf (pick x1 n) (shapeCast S16 p1 shapeCasts_S1x16_S16 (ix1 l)))
    (FloatOps.addf (FloatOps.mulf (pick x2 n) (shapeCast S16 p2 shapeCasts_S1x16_S16 (ix1 l))) (shapeCast S16 p3 shapeCasts_S1x16_S16 (ix1 l))))) = _
  rw [h0, h1, h2, h3, pick_eq, pick_eq, pick_eq]
  rfl

theorem raise_step (f6 : S4x16384.Idx → F .f32) (x0 x1 x2 : FVec F S16 .f32) (n : Fin 16) (k : Fin k1_t2_loop.trips) :
    raise x0 x1 x2 n (maxLanes (qry x0 x1 x2 n) f6 k.val) (fun x => f6 ((Rect.unit (s := S4x16384) (k1_off5 k) S1x16.size (k1_off5_inb k)).emb x))
      (fun x => f6 ((Rect.unit (s := S4x16384) (k1_off6 k) S1x16.size (k1_off6_inb k)).emb x))
      (fun x => f6 ((Rect.unit (s := S4x16384) (k1_off7 k) S1x16.size (k1_off7_inb k)).emb x))
      (fun x => f6 ((Rect.unit (s := S4x16384) (k1_off8 k) S1x16.size (k1_off8_inb k)).emb x))
    = maxLanes (qry x0 x1 x2 n) f6 (k.val + 1) :=
  raise_rows f6 x0 x1 x2 n k.val _ _ _ _ (fun l => shapeCast_p f6 (k1_off5 k) (k1_off5_inb k) 0 _ (off5_eq k) l) (fun l => shapeCast_p f6 (k1_off6 k) (k1_off6_inb k) 1 _ (off6_eq k) l)
    (fun l => shapeCast_p f6 (k1_off7 k) (k1_off7_inb k) 2 _ (off7_eq k) l) (fun l => shapeCast_p f6 (k1_off8 k) (k1_off8_inb k) 3 _ (off8_eq k) l)

theorem trip_run (f6 : Buf (Elt F) ((V d (cV i) (jV i)).loc cc1_scratch1)) (x0 x1 x2 : FVec F S16 .f32) (e : Fin 4 → Fin 16) (k : Fin k1_t2_loop.trips) :
    pSPts d i f6 ⊢ wp frame (wpE (defs₀ (F := F)) 𝒱₀ (V d (cV i) (jV i)) none) Set.univ (trip i x0 x1 x2 e k (accAt x0 x1 x2 e f6 k.val))
      fun acc' => iprop(pSPts d i f6 ∗ ⌜acc' = accAt x0 x1 x2 e f6 (k.val + 1)⌝) := by
  unfold trip accAt
  iintro H
  sl_exec
  sl_step
  isplitl [H]
  · iexact H
  · ipureintro
    exact congr (congrArg Prod.mk (raise_step f6 x0 x1 x2 (e 0) k)) (congr (congrArg Prod.mk (raise_step f6 x0 x1 x2 (e 1) k))
      (congr (congrArg Prod.mk (raise_step f6 x0 x1 x2 (e 2) k)) (raise_step f6 x0 x1 x2 (e 3) k)))

/-- An inner loop run: the carried vectors leave it as the maxima over all its points. -/
theorem loop_run (f6 : Buf (Elt F) ((V d (cV i) (jV i)).loc cc1_scratch1)) (x0 x1 x2 : FVec F S16 .f32) (e : Fin 4 → Fin 16) (hok : k1_t2_loop.OK)
    (init : Acc4 F) (hinit : init = accAt x0 x1 x2 e f6 0)
    (body : Fin k1_t2_loop.trips → Acc4 F → Prog (TpuEff nD τ sig (Elt F) Λ₀ (.scVector ((i 0).castLE hcore1) ((i 1).castLE hsub1))) (Acc4 F)) (hbody : body = trip i x0 x1 x2 e)
    {β : Type} (kk : Acc4 F → Prog (TpuEff nD τ sig (Elt F) Λ₀ (.scVector ((i 0).castLE hcore1) ((i 1).castLE hsub1))) β) (Q : β → sProp 𝕄) :
    iprop(pSPts d i f6 ∗ (pSPts d i f6 -∗ wp frame (wpE (defs₀ (F := F)) 𝒱₀ (V d (cV i) (jV i)) none) Set.univ (kk (accAt x0 x1 x2 e f6 1024)) Q))
    ⊢ wp frame (wpE (defs₀ (F := F)) 𝒱₀ (V d (cV i) (jV i)) none) Set.univ (Scf.Loop.for k1_t2_loop hok init body >>= kk) Q := by
  subst hbody hinit
  have hfor := Scf.wp_for_bind (M := 𝕄) frame (wpE (defs₀ (F := F)) 𝒱₀ (V d (cV i) (jV i)) none) Set.univ k1_t2_loop.lb k1_t2_loop.ub k1_t2_loop.st hok (accAt x0 x1 x2 e f6 0) (trip i x0 x1 x2 e)
    (fun n acc => iprop(pSPts d i f6 ∗ ⌜acc = accAt x0 x1 x2 e f6 n⌝)) ?step (kk := kk) (Q := Q)
  case step =>
    intro k acc
    iintro ⟨H, %h⟩
    subst h
    iapply (trip_run d i f6 x0 x1 x2 e k)
    iexact H
  iintro ⟨H, Hk⟩
  ihave Hw := hfor $$ [H]
  · isplitl [H]
    · iexact H
    · ipureintro; rfl
  iapply Hw
  iintro %acc ⟨H, %h⟩
  subst h
  have ht : Scf.trips k1_t2_loop.lb k1_t2_loop.ub k1_t2_loop.st = 1024 := trips2
  rw [ht]
  iapply Hk
  iexact H

end Cert.Proof.KI

end
-- ==== Proof.KI.Tile.lean ====
/-
  One trip of the tile kernel's outer loop: sixteen queries' rows of running maxima computed and stored.
-/
module

public import proofs.«01_k».proof.Proof.KI.Trip
public import Idealize.ShloMosaic.Lib.WritesUnit

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F]

local notation "𝕄" => MT nD τ sig (HIx 1) (Elt F) ℕ UU ℕ

variable (d : Dev nD) (i : grid1.Coords)

abbrev xSPts (f5 : Buf (Elt F) ((V d (cV i) (jV i)).loc cc1_scratch0)) : sProp 𝕄 := (xS).view.loc (V d (cV i) (jV i)) ↦{fullShare} f5
abbrev uSPts (f7 : Buf (Elt F) ((V d (cV i) (jV i)).loc cc1_scratch2)) : sProp 𝕄 := (uS).view.loc (V d (cV i) (jV i)) ↦{fullShare} f7

/-- The rows below `n` hold their queries' maxima. -/
def Filled (fx : S4x256.Idx → F .f32) (fp : S4x16384.Idx → F .f32) (f7 : S256x16.Idx → F .f32) (n : ℕ) : Prop :=
  ∀ (r : Fin 256) (l : Fin 16), r.val < n → f7 (ix2 r l) = tileMax (w := 256) fx fp r.val l.val

/-- One row stored at its place. -/
theorem Filled.store {fx : S4x256.Idx → F .f32} {fp : S4x16384.Idx → F .f32} {f7 : (uS).view.ty.Contents (Elt F)} {n : ℕ} (h : Filled fx fp f7 n)
    (off : Fin 2 → ℕ) (hin : ∀ a, off a + S1x16.size a ≤ S256x16.size a) (hoff : off = ![n, 0]) {q : Fin 3 → F .f32} (hq : q = xcol (w := 256) fx n)
    {w : Vec F S1x16 .f32} (hw : w = shapeCast S1x16 (maxLanes q fp 1024) shapeCasts_S16_S1x16) :
    Filled fx fp (((uS).view.slice (Rect.unit (s := S256x16) off S1x16.size hin)).write (Elt F) f7 w Finset.univ) (n + 1) := by
  subst hoff hq hw
  intro r l hr
  have key := View.read_writes_cons_unit (uS).view f7 hin (shapeCast S1x16 (maxLanes (xcol (w := 256) fx n) fp 1024) shapeCasts_S16_S1x16) [] (ix2 r l) rfl
  have hn : n + 1 ≤ 256 := hin 0
  by_cases hrn : r.val = n
  · rw [dif_pos (by
      intro a
      match a with
      | ⟨0, _⟩ => exact ⟨by show n ≤ r.val; omega, by show r.val < n + 1; omega⟩
      | ⟨1, _⟩ => exact ⟨Nat.zero_le _, by have := l.isLt; show l.val < 0 + 16; omega⟩)] at key
    refine Eq.trans key ?_
    have hl : (Rect.unitLocal (s := S256x16) (off := ![n, 0]) (size := S1x16.size) (ix2 r l) (by
      intro a
      match a with
      | ⟨0, _⟩ => exact ⟨by show n ≤ r.val; omega, by show r.val < n + 1; omega⟩
      | ⟨1, _⟩ => exact ⟨Nat.zero_le _, by have := l.isLt; show l.val < 0 + 16; omega⟩)) = (ix2 (0 : Fin 1) l : S1x16.Idx) := by
      funext a
      match a with
      | ⟨0, _⟩ => exact Fin.ext (by show r.val - n = 0; omega)
      | ⟨1, _⟩ => exact Fin.ext (by show l.val - 0 = l.val; omega)
    refine (congrArg (shapeCast S1x16 (maxLanes (xcol (w := 256) fx n) fp 1024) shapeCasts_S16_S1x16) hl).trans ?_
    rw [← hrn]
    exact shapeCast_a_1a_apply _ _ _ _
  · rw [dif_neg (by
      intro hall
      have h0 := hall 0
      have h1 : n ≤ r.val ∧ r.val < n + 1 := h0
      omega)] at key
    exact Eq.trans key (h r l (by omega))

section
variable (harg2 : (xV).IsWhole) (harg3 : (pV).IsWhole) (harg4 : (uV).IsWhole) (harg5 : (xS).IsWhole) (harg6 : (pS).IsWhole) (harg7 : (uS).IsWhole) (v0 v1 v2 : DmaSems sig S_)
  (fx : Buf (Elt F) ((V d (cV i) (jV i)).loc cc1_scratch0)) (f6 : Buf (Elt F) ((V d (cV i) (jV i)).loc cc1_scratch1)) (f7 : Buf (Elt F) ((V d (cV i) (jV i)).loc cc1_scratch2))
    (k : Fin k1_t1_loop.trips) (w : BitVec 32)

/-- The three coordinate vectors of the sixteen queries of trip `k`. -/
theorem qry_rows (q0 q1 q2 : Vec F S1x16 .f32)
    (h0 : q0 = (xS).view.readAt (Elt F) (Rect.unit (s := S4x256) (k1_off2 k) S1x16.size (k1_off2_inb k)).toLoadRect fx)
    (h1 : q1 = (xS).view.readAt (Elt F) (Rect.unit (s := S4x256) (k1_off3 k) S1x16.size (k1_off3_inb k)).toLoadRect fx)
    (h2 : q2 = (xS).view.readAt (Elt F) (Rect.unit (s := S4x256) (k1_off4 k) S1x16.size (k1_off4_inb k)).toLoadRect fx) (e : Fin 16) :
    qry (k1_pay4 q0) (k1_pay5 q1) (k1_pay6 q2) e = xcol (w := 256) fx (16 * k.val + e.val) := by
  subst h0 h1 h2
  funext c
  match c with
  | ⟨0, _⟩ => exact shapeCast_row (w := 256) fx (k1_off2 k) (k1_off2_inb k) 0 _ (off2_eq k) e
  | ⟨1, _⟩ => exact shapeCast_row (w := 256) fx (k1_off3 k) (k1_off3_inb k) 1 _ (off3_eq k) e
  | ⟨2, _⟩ => exact shapeCast_row (w := 256) fx (k1_off4 k) (k1_off4_inb k) 2 _ (off4_eq k) e

theorem part1_run :
    iprop(xSPts d i fx)
    ⊢ wp frame (wpE (defs₀ (F := F)) 𝒱₀ (V d (cV i) (jV i)) none) Set.univ (k1_part1_skel i xV harg2 pV harg3 uV harg4 xS harg5 pS harg6 uS harg7 v0 v1 v2 0#32 1#32 k)
      fun r => iprop(xSPts d i fx ∗ ∃ w v8 v12 v16, ⌜r = ⟨w, k1_pay4 v8, k1_pay5 v12, k1_pay6 v16, k1_pay7 v8, k1_pay8 v12, k1_pay9 v16, k1_pay10 v8, k1_pay11 v12, k1_pay12 v16, k1_pay13 v8, k1_pay14 v12, k1_pay15 v16, k1_pay16 v8, k1_pay17 v12, k1_pay18 v16, k1_pay19, 0#32, 1#32⟩
        ∧ ∀ e : Fin 16, qry (k1_pay4 v8) (k1_pay5 v12) (k1_pay6 v16) e = xcol (w := 256) fx (16 * k.val + e.val)⌝) := by
  unfold k1_part1_skel
  iintro Hx
  sl_exec
  sl_step
  isplitl [Hx]
  · iexact Hx
  iexists _, _, _, _
  ipureintro
  exact ⟨rfl, qry_rows d i fx k _ _ _ rfl rfl rfl⟩

theorem part2_run (v8 v12 v16 : Vec F S1x16 .f32) (hq : ∀ e : Fin 16, qry (k1_pay4 v8) (k1_pay5 v12) (k1_pay6 v16) e = xcol (w := 256) fx (16 * k.val + e.val)) (hf : Filled fx f6 f7 (16 * k.val + 0)) :
    iprop(pSPts d i f6 ∗ uSPts d i f7)
    ⊢ wp frame (wpE (defs₀ (F := F)) 𝒱₀ (V d (cV i) (jV i)) none) Set.univ (k1_part2_skel i xV harg2 pV harg3 uV harg4 xS harg5 pS harg6 uS harg7 v0 v1 v2 k w (k1_pay4 v8) (k1_pay5 v12) (k1_pay6 v16) (k1_pay7 v8) (k1_pay8 v12) (k1_pay9 v16) (k1_pay10 v8) (k1_pay11 v12) (k1_pay12 v16) (k1_pay13 v8) (k1_pay14 v12) (k1_pay15 v16) (k1_pay16 v8) (k1_pay17 v12) (k1_pay18 v16) k1_pay19 0#32 1#32)
      fun r => iprop(⌜r = ⟨k1_pay32 (k1_pay4 v8), k1_pay33 (k1_pay5 v12), k1_pay34 (k1_pay6 v16), k1_pay35 (k1_pay4 v8)⟩⌝ ∗ pSPts d i f6 ∗ ∃ f7', uSPts d i f7' ∗ ⌜Filled fx f6 f7' (16 * k.val + 4)⌝) := by
  unfold k1_part2_skel
  iintro ⟨Hp, Hu⟩
  iapply (loop_run d i f6 _ _ _ ![0, 1, 2, 3] _ _ rfl _ (t2_trip i ..))
  isplitl [Hp]
  · iexact Hp
  iintro Hp
  sl_exec
  sl_step
  isplitl []
  · ipureintro; rfl
  isplitl [Hp]
  · iexact Hp
  iexists _
  isplitl [Hu]
  · iexact Hu
  · ipureintro
    exact ((((hf.store (k1_off9 k 0#32 0#32) (k1_off9_inb k 0 0) (off9_eq k 0 0) (hq 0) (w := _) rfl).store (k1_off9 k 0#32 1#32) (k1_off9_inb k 0 1) (off9_eq k 0 1) (hq 1) (w := _) rfl).store (k1_off9 k 0#32 2#32) (k1_off9_inb k 0 2) (off9_eq k 0 2) (hq 2) (w := _) rfl).store (k1_off9 k 0#32 3#32) (k1_off9_inb k 0 3) (off9_eq k 0 3) (hq 3) (w := _) rfl)

theorem part3_run (x0 x1 x2 : FVec F S16 .f32) (hq : ∀ e : Fin 16, qry x0 x1 x2 e = xcol (w := 256) fx (16 * k.val + e.val)) (hf : Filled fx f6 f7 (16 * k.val + 4)) :
    iprop(pSPts d i f6 ∗ uSPts d i f7)
    ⊢ wp frame (wpE (defs₀ (F := F)) 𝒱₀ (V d (cV i) (jV i)) none) Set.univ (k1_part3_skel i xV harg2 pV harg3 uV harg4 xS harg5 pS harg6 uS harg7 v0 v1 v2 k w x0 x1 x2 (k1_pay32 x0) (k1_pay33 x1) (k1_pay34 x2) (k1_pay35 x0))
      fun r => iprop(⌜r = ⟨(maxLanes (qry x0 x1 x2 6) f6 1024), (maxLanes (qry x0 x1 x2 7) f6 1024), Scalar.muli w 16#32⟩⌝ ∗ pSPts d i f6 ∗ ∃ f7', uSPts d i f7' ∗ ⌜Filled fx f6 f7' (16 * k.val + 6)⌝) := by
  unfold k1_part3_skel
  iintro ⟨Hp, Hu⟩
  iapply (loop_run d i f6 _ _ _ ![4, 5, 6, 7] _ _ rfl _ (t3_trip i ..))
  isplitl [Hp]
  · iexact Hp
  iintro Hp
  sl_exec
  sl_step
  isplitl []
  · ipureintro; rfl
  isplitl [Hp]
  · iexact Hp
  iexists _
  isplitl [Hu]
  · iexact Hu
  · ipureintro
    exact ((hf.store (k1_off9 k 4#32 0#32) (k1_off9_inb k 1 0) (off9_eq k 1 0) (hq 4) (w := _) rfl).store (k1_off9 k 4#32 1#32) (k1_off9_inb k 1 1) (off9_eq k 1 1) (hq 5) (w := _) rfl)

theorem part4_run (x0 x1 x2 : FVec F S16 .f32) (hq : ∀ e : Fin 16, qry x0 x1 x2 e = xcol (w := 256) fx (16 * k.val + e.val)) (c : BitVec 32) (hf : Filled fx f6 f7 (16 * k.val + 6)) :
    iprop(pSPts d i f6 ∗ uSPts d i f7)
    ⊢ wp frame (wpE (defs₀ (F := F)) 𝒱₀ (V d (cV i) (jV i)) none) Set.univ (k1_part4_skel i xV harg2 pV harg3 uV harg4 xS harg5 pS harg6 uS harg7 v0 v1 v2 k w x0 x1 x2 (maxLanes (qry x0 x1 x2 6) f6 1024) (maxLanes (qry x0 x1 x2 7) f6 1024) c)
      fun r => iprop(⌜r = ⟨k1_pay49 x0, k1_pay50 x1, k1_pay51 x2, k1_pay52 x0, k1_pay53 x1, k1_pay54 x2, k1_pay55 x0, k1_pay56 x1, k1_pay57 x2, k1_pay58 x0, k1_pay59 x1, k1_pay60 x2, k1_pay61⟩⌝ ∗ pSPts d i f6 ∗ ∃ f7', uSPts d i f7' ∗ ⌜Filled fx f6 f7' (16 * k.val + 8)⌝) := by
  unfold k1_part4_skel
  iintro ⟨Hp, Hu⟩
  sl_exec
  sl_step
  isplitl []
  · ipureintro; rfl
  isplitl [Hp]
  · iexact Hp
  iexists _
  isplitl [Hu]
  · iexact Hu
  · ipureintro
    exact ((hf.store (k1_off9 k 4#32 2#32) (k1_off9_inb k 1 2) (off9_eq k 1 2) (hq 6) (w := _) rfl).store (k1_off9 k 4#32 3#32) (k1_off9_inb k 1 3) (off9_eq k 1 3) (hq 7) (w := _) rfl)

theorem part5_run (x0 x1 x2 : FVec F S16 .f32) (hq : ∀ e : Fin 16, qry x0 x1 x2 e = xcol (w := 256) fx (16 * k.val + e.val)) (hf : Filled fx f6 f7 (16 * k.val + 8)) :
    iprop(pSPts d i f6 ∗ uSPts d i f7)
    ⊢ wp frame (wpE (defs₀ (F := F)) 𝒱₀ (V d (cV i) (jV i)) none) Set.univ (k1_part5_skel i xV harg2 pV harg3 uV harg4 xS harg5 pS harg6 uS harg7 v0 v1 v2 k w x0 x1 (k1_pay49 x0) (k1_pay50 x1) (k1_pay51 x2) (k1_pay52 x0) (k1_pay53 x1) (k1_pay54 x2) (k1_pay55 x0) (k1_pay56 x1) (k1_pay57 x2) (k1_pay58 x0) (k1_pay59 x1) (k1_pay60 x2) k1_pay61)
      fun r => iprop(⌜r = ⟨k1_pay74 x0, k1_pay75 x1⟩⌝ ∗ pSPts d i f6 ∗ ∃ f7', uSPts d i f7' ∗ ⌜Filled fx f6 f7' (16 * k.val + 12)⌝) := by
  unfold k1_part5_skel
  iintro ⟨Hp, Hu⟩
  iapply (loop_run d i f6 _ _ _ ![8, 9, 10, 11] _ _ rfl _ (t4_trip i ..))
  isplitl [Hp]
  · iexact Hp
  iintro Hp
  sl_exec
  sl_step
  isplitl []
  · ipureintro; rfl
  isplitl [Hp]
  · iexact Hp
  iexists _
  isplitl [Hu]
  · iexact Hu
  · ipureintro
    exact ((((hf.store (k1_off9 k 8#32 0#32) (k1_off9_inb k 2 0) (off9_eq k 2 0) (hq 8) (w := _) rfl).store (k1_off9 k 8#32 1#32) (k1_off9_inb k 2 1) (off9_eq k 2 1) (hq 9) (w := _) rfl).store (k1_off9 k 8#32 2#32) (k1_off9_inb k 2 2) (off9_eq k 2 2) (hq 10) (w := _) rfl).store (k1_off9 k 8#32 3#32) (k1_off9_inb k 2 3) (off9_eq k 2 3) (hq 11) (w := _) rfl)

theorem part6_run (x0 x1 x2 : FVec F S16 .f32) (hq : ∀ e : Fin 16, qry x0 x1 x2 e = xcol (w := 256) fx (16 * k.val + e.val)) (hf : Filled fx f6 f7 (16 * k.val + 12)) :
    iprop(pSPts d i f6 ∗ uSPts d i f7)
    ⊢ wp frame (wpE (defs₀ (F := F)) 𝒱₀ (V d (cV i) (jV i)) none) Set.univ (k1_part6_skel i xV harg2 pV harg3 uV harg4 xS harg5 pS harg6 uS harg7 v0 v1 v2 k w x0 x1 x2 (k1_pay74 x0) (k1_pay75 x1))
      fun r => iprop(⌜r = ⟨(maxLanes (qry x0 x1 x2 13) f6 1024), (maxLanes (qry x0 x1 x2 14) f6 1024), (maxLanes (qry x0 x1 x2 15) f6 1024)⟩⌝ ∗ pSPts d i f6 ∗ ∃ f7', uSPts d i f7' ∗ ⌜Filled fx f6 f7' (16 * k.val + 13)⌝) := by
  unfold k1_part6_skel
  iintro ⟨Hp, Hu⟩
  iapply (loop_run d i f6 _ _ _ ![12, 13, 14, 15] _ _ rfl _ (t5_trip i ..))
  isplitl [Hp]
  · iexact Hp
  iintro Hp
  sl_exec
  sl_step
  isplitl []
  · ipureintro; rfl
  isplitl [Hp]
  · iexact Hp
  iexists _
  isplitl [Hu]
  · iexact Hu
  · ipureintro
    exact (hf.store (k1_off9 k 12#32 0#32) (k1_off9_inb k 3 0) (off9_eq k 3 0) (hq 12) (w := _) rfl)

/-- One trip of the outer loop. -/
theorem outer_run (hf : Filled fx f6 f7 (16 * k.val)) :
    iprop(xSPts d i fx ∗ pSPts d i f6 ∗ uSPts d i f7)
    ⊢ wp frame (wpE (defs₀ (F := F)) 𝒱₀ (V d (cV i) (jV i)) none) Set.univ (k1_t1_body i xV harg2 pV harg3 uV harg4 xS harg5 pS harg6 uS harg7 v0 v1 v2 k w)
      fun _ => iprop(xSPts d i fx ∗ pSPts d i f6 ∗ ∃ f7', uSPts d i f7' ∗ ⌜Filled fx f6 f7' (16 * (k.val + 1))⌝) := by
  unfold k1_t1_body
  simp only [k1_part1_eq_skeleton, k1_part2_eq_skeleton, k1_part3_eq_skeleton, k1_part4_eq_skeleton, k1_part5_eq_skeleton, k1_part6_eq_skeleton]
  iintro ⟨Hx, Hp, Hu⟩
  rw [wp_bind]
  iapply (wp_wand_r frame (wpE (defs₀ (F := F)) 𝒱₀ (V d (cV i) (jV i)) none) Set.univ)
  isplitl [Hx]
  · iapply (part1_run d i harg2 harg3 harg4 harg5 harg6 harg7 v0 v1 v2 fx k)
    iexact Hx
  iintro %r ⟨Hx, ⟨%w, %v8, %v12, %v16, %h⟩⟩
  obtain ⟨h, hq⟩ := h
  subst h
  dsimp only
  rw [wp_bind]
  iapply (wp_wand_r frame (wpE (defs₀ (F := F)) 𝒱₀ (V d (cV i) (jV i)) none) Set.univ)
  isplitl [Hp Hu]
  · iapply (part2_run d i harg2 harg3 harg4 harg5 harg6 harg7 v0 v1 v2 fx f6 f7 k w v8 v12 v16 hq hf)
    isplitl [Hp]
    · iexact Hp
    · iexact Hu
  iintro %r ⟨%h, Hp, ⟨%fa, Hu, %ha⟩⟩
  subst h
  dsimp only
  revert hq
  generalize k1_pay4 v8 = x0
  generalize k1_pay5 v12 = x1
  generalize k1_pay6 v16 = x2
  intro hq
  rw [wp_bind]
  iapply (wp_wand_r frame (wpE (defs₀ (F := F)) 𝒱₀ (V d (cV i) (jV i)) none) Set.univ)
  isplitl [Hp Hu]
  · iapply (part3_run d i harg2 harg3 harg4 harg5 harg6 harg7 v0 v1 v2 fx f6 fa k w x0 x1 x2 hq ha)
    isplitl [Hp]
    · iexact Hp
    · iexact Hu
  iintro %r ⟨%h, Hp, ⟨%fb, Hu, %hb⟩⟩
  subst h
  dsimp only
  rw [wp_bind]
  iapply (wp_wand_r frame (wpE (defs₀ (F := F)) 𝒱₀ (V d (cV i) (jV i)) none) Set.univ)
  isplitl [Hp Hu]
  · iapply (part4_run d i harg2 harg3 harg4 harg5 harg6 harg7 v0 v1 v2 fx f6 fb k w x0 x1 x2 hq _ hb)
    isplitl [Hp]
    · iexact Hp
    · iexact Hu
  iintro %r ⟨%h, Hp, ⟨%fc, Hu, %hc⟩⟩
  subst h
  dsimp only
  rw [wp_bind]
  iapply (wp_wand_r frame (wpE (defs₀ (F := F)) 𝒱₀ (V d (cV i) (jV i)) none) Set.univ)
  isplitl [Hp Hu]
  · iapply (part5_run d i harg2 harg3 harg4 harg5 harg6 harg7 v0 v1 v2 fx f6 fc k w x0 x1 x2 hq hc)
    isplitl [Hp]
    · iexact Hp
    · iexact Hu
  iintro %r ⟨%h, Hp, ⟨%fe, Hu, %he⟩⟩
  subst h
  dsimp only
  rw [wp_bind]
  iapply (wp_wand_r frame (wpE (defs₀ (F := F)) 𝒱₀ (V d (cV i) (jV i)) none) Set.univ)
  isplitl [Hp Hu]
  · iapply (part6_run d i harg2 harg3 harg4 harg5 harg6 harg7 v0 v1 v2 fx f6 fe k w x0 x1 x2 hq he)
    isplitl [Hp]
    · iexact Hp
    · iexact Hu
  iintro %r ⟨%h, Hp, ⟨%fg, Hu, %hg⟩⟩
  subst h
  dsimp only
  sl_exec
  sl_step
  isplitl [Hx]
  · iexact Hx
  isplitl [Hp]
  · iexact Hp
  iexists _
  isplitl [Hu]
  · iexact Hu
  · ipureintro
    exact (((hg.store (k1_off9 k 12#32 1#32) (k1_off9_inb k 3 1) (off9_eq k 3 1) (hq 13) (w := _) rfl).store (k1_off9 k 12#32 2#32) (k1_off9_inb k 3 2) (off9_eq k 3 2) (hq 14) (w := _) rfl).store (k1_off9 k 12#32 3#32) (k1_off9_inb k 3 3) (off9_eq k 3 3) (hq 15) (w := _) rfl)
end

end Cert.Proof.KI

end
-- ==== Proof.KI.Task.lean ====
/-
  A vector subcore's whole task: its queries and the packed table brought in, its rows of maxima computed, its rows
  sent out; what the one SparseCore call takes and gives back; and how the operands split over the thirty-two tasks.
-/
module

public import proofs.«01_k».proof.Proof.KI.Tile

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F]

local notation "𝕄" => MT nD τ sig (HIx 1) (Elt F) ℕ UU ℕ

/-! ## Read shares -/

/-- What is left of the full share after `n` halves have been taken off. -/
def restShare : ℕ → PosShare TreeShare
  | 0 => fullShare
  | n + 1 => (restShare n).right

/-- The half taken off at step `n`. -/
def pieceShare (n : ℕ) : PosShare TreeShare := (restShare n).left

theorem pointsTo_pieces {ℓ : Loc nD τ sig} (f : Buf (Elt F) ℓ) (n : ℕ) :
    (ℓ ↦{fullShare} f : sProp 𝕄) = iprop((bigSep Finset.univ fun w : Fin n => ℓ ↦{pieceShare w.val} f) ∗ ℓ ↦{restShare n} f) := by
  induction n with
  | zero =>
    rw [show (bigSep Finset.univ fun w : Fin 0 => (ℓ ↦{pieceShare w.val} f : sProp 𝕄)) = iprop(emp) from bigSep_empty]
    exact (BI.equiv_iff.mp BI.emp_sep).symm
  | succ n ih =>
    rw [ih, BI.Entails.antisymm (pointsTo_share (PosShare.mem_left_op_right (restShare n))).1 (pointsTo_share (PosShare.mem_left_op_right (restShare n))).2,
      Fin.univ_castSuccEmb, Finset.cons_eq_insert, bigSep_insert (by simp), bigSep_map]
    have h : (iprop((bigSep Finset.univ fun w : Fin n => ℓ ↦{pieceShare w.val} f) ∗ (ℓ ↦{pieceShare n} f) ∗ ℓ ↦{restShare (n + 1)} f) : sProp 𝕄)
        ⊣⊢ iprop(((ℓ ↦{pieceShare n} f) ∗ bigSep Finset.univ fun w : Fin n => ℓ ↦{pieceShare w.val} f) ∗ ℓ ↦{restShare (n + 1)} f) := by
      constructor
      · iintro ⟨H1, H2, H3⟩
        isplitr [H3]
        · isplitl [H2]
          · iexact H2
          · iexact H1
        · iexact H3
      · iintro ⟨⟨H2, H1⟩, H3⟩
        isplitl [H1]
        · iexact H1
        isplitl [H2]
        · iexact H2
        · iexact H3
    exact BI.Entails.antisymm h.1 h.2

/-! ## The tasks' numbers and blocks -/

/-- The task of subcore `s` of SparseCore `c`: rows `256 (2 s + c)` on. -/
def wid (c : Fin 2) (s : Fin 16) : Fin 32 := finProdFinEquiv (s, c)

theorem wid_val (c : Fin 2) (s : Fin 16) : (wid c s).val = 2 * s.val + c.val := by
  show c.val + 2 * s.val = _; omega

theorem bigSep_tasks (Φ : Fin 32 → sProp 𝕄) :
    bigSep Finset.univ Φ = bigSep Finset.univ fun c : Fin 2 => bigSep Finset.univ fun s : Fin 16 => Φ (wid c s) := by
  rw [bigSep_univ_equiv ((Equiv.prodComm (Fin 2) (Fin 16)).trans (finProdFinEquiv : Fin 16 × Fin 2 ≃ Fin 32)) Φ, bigSep_univ_prod]
  rfl

theorem blk_dvd : 32 ∣ S8192x16.size 0 := ⟨256, rfl⟩
abbrev blk (w : Fin 32) : Rect S8192x16 := Rect.part (s := S8192x16) (a₀ := 0) blk_dvd w
abbrev blkSet (w : Fin 32) : Finset S8192x16.Idx := (blk w).set

theorem blk_disjoint : ∀ i ∈ (Finset.univ : Finset (Fin 32)), ∀ j ∈ (Finset.univ : Finset (Fin 32)), i ≠ j → Disjoint (blkSet i) (blkSet j) :=
  fun _ _ _ _ h => Rect.part_disjoint blk_dvd h
theorem blk_cover : (Finset.univ : Finset (Fin 32)).biUnion blkSet = Finset.univ := Rect.biUnion_part blk_dvd

theorem us_blocks (d : Dev nD) (f : Buf (Elt F) (usLoc d)) :
    (usLoc d ↦{fullShare} f : sProp 𝕄) = bigSep Finset.univ fun w : Fin 32 => usLoc d ↦[blkSet w]{fullShare} f := by
  rw [← pointsTo_biUnion Finset.univ (ℓ := usLoc d) blkSet blk_disjoint, blk_cover]

/-! ## What the call takes and gives back -/

variable (X : (d : Dev nD) → Buf (Elt F) (xtLoc d)) (Pk : (d : Dev nD) → Buf (Elt F) (opLoc d)) (U0 : (d : Dev nD) → Buf (Elt F) (usLoc d))

/-- The call's result: row `q`, lane `l` the maximum over the lane's points of query `q`'s values. -/
def scOut (d : Dev nD) : Buf (Elt F) (usLoc d) := fun j : S8192x16.Idx => tileMax (w := 8192) (X d) (Pk d) (j 0).val (j 1).val

/-- A task's holdings: its shares of the two tables it reads and its rows of the result, at contents `f`. -/
abbrev taskPts (d : Dev nD) (w : Fin 32) (f : Buf (Elt F) (usLoc d)) : sProp 𝕄 :=
  iprop((xtLoc d ↦{pieceShare w.val} X d) ∗ (opLoc d ↦{pieceShare w.val} Pk d) ∗ usLoc d ↦[blkSet w]{fullShare} f)

theorem nCore_zero : (K (F := F)).nCore 0 = 2 := rfl
theorem nSub_zero : (K (F := F)).nSub 0 = 16 := rfl

def P : (K (F := F)).Pay (nD := nD) (Val := Elt F) (Name := ℕ) (U := UU) where
  st := fun q d c => match q with
    | 0 => bigSep Finset.univ fun i : Fin ((K (F := F)).nSub 0) => taskPts X Pk d (wid (Fin.cast nCore_zero c) (Fin.cast nSub_zero i)) (U0 d)
  dn := fun q d c => match q with
    | 0 => bigSep Finset.univ fun i : Fin ((K (F := F)).nSub 0) => taskPts X Pk d (wid (Fin.cast nCore_zero c) (Fin.cast nSub_zero i)) (scOut X Pk d)
  go := fun q d c i => match q with
    | 0 => taskPts X Pk d (wid (Fin.cast nCore_zero c) (Fin.cast nSub_zero i)) (U0 d)
  td := fun q d c i => match q with
    | 0 => taskPts X Pk d (wid (Fin.cast nCore_zero c) (Fin.cast nSub_zero i)) (scOut X Pk d)
  x := fun _ _ => iprop(emp)

instance P_storable : (P (F := F) X Pk U0).IsStorable where
  st q d c := match q with
    | 0 => (inferInstance : BI.Storable (upEmb : UEmb _ 𝕄) (bigSep Finset.univ fun i : Fin ((K (F := F)).nSub 0) => taskPts X Pk d (wid (Fin.cast nCore_zero c) (Fin.cast nSub_zero i)) (U0 d)))
  dn q d c := match q with
    | 0 => (inferInstance : BI.Storable (upEmb : UEmb _ 𝕄) (bigSep Finset.univ fun i : Fin ((K (F := F)).nSub 0) => taskPts X Pk d (wid (Fin.cast nCore_zero c) (Fin.cast nSub_zero i)) (scOut X Pk d)))
  go q d c i := match q with
    | 0 => (inferInstance : BI.Storable (upEmb : UEmb _ 𝕄) (taskPts X Pk d (wid (Fin.cast nCore_zero c) (Fin.cast nSub_zero i)) (U0 d)))
  td q d c i := match q with
    | 0 => (inferInstance : BI.Storable (upEmb : UEmb _ 𝕄) (taskPts X Pk d (wid (Fin.cast nCore_zero c) (Fin.cast nSub_zero i)) (scOut X Pk d)))

theorem vecSplit : (K (F := F)).VecSplit' (P X Pk U0) 0 := by
  intro d c
  show (bigSep Finset.univ fun i : Fin ((K (F := F)).nSub 0) => taskPts X Pk d (wid (Fin.cast nCore_zero c) (Fin.cast nSub_zero i)) (U0 d)) ⊢ |={Set.univ}=> iprop(
      (bigSep Finset.univ fun i : Fin ((K (F := F)).nSub 0) => taskPts X Pk d (wid (Fin.cast nCore_zero c) (Fin.cast nSub_zero i)) (U0 d))
      ∗ ((bigSep Finset.univ fun i : Fin ((K (F := F)).nSub 0) => taskPts X Pk d (wid (Fin.cast nCore_zero c) (Fin.cast nSub_zero i)) (scOut X Pk d))
          -∗ bigSep Finset.univ fun i : Fin ((K (F := F)).nSub 0) => taskPts X Pk d (wid (Fin.cast nCore_zero c) (Fin.cast nSub_zero i)) (scOut X Pk d)))
  iintro H; imodintro
  isplitl [H]
  · iexact H
  iintro H
  iexact H

/-- The operands whole are the tasks' holdings, and the rest of the two read shares. -/
theorem tasks_eq (d : Dev nD) (f : Buf (Elt F) (usLoc d)) :
    iprop((xtLoc d ↦{fullShare} X d) ∗ (opLoc d ↦{fullShare} Pk d) ∗ usLoc d ↦{fullShare} f)
      = (iprop((bigSep Finset.univ fun c : Fin 2 => bigSep Finset.univ fun s : Fin 16 => taskPts X Pk d (wid c s) f)
          ∗ (xtLoc d ↦{restShare 32} X d) ∗ opLoc d ↦{restShare 32} Pk d) : sProp 𝕄) := by
  rw [← bigSep_tasks (F := F) (fun w => taskPts X Pk d w f), bigSep_sep', bigSep_sep', pointsTo_pieces (X d) 32, pointsTo_pieces (Pk d) 32, us_blocks]
  have h : (iprop(((bigSep Finset.univ fun w : Fin 32 => xtLoc d ↦{pieceShare w.val} X d) ∗ xtLoc d ↦{restShare 32} X d)
      ∗ ((bigSep Finset.univ fun w : Fin 32 => opLoc d ↦{pieceShare w.val} Pk d) ∗ opLoc d ↦{restShare 32} Pk d)
      ∗ bigSep Finset.univ fun w : Fin 32 => usLoc d ↦[blkSet w]{fullShare} f) : sProp 𝕄)
    ⊣⊢ iprop(((bigSep Finset.univ fun w : Fin 32 => xtLoc d ↦{pieceShare w.val} X d) ∗ (bigSep Finset.univ fun w : Fin 32 => opLoc d ↦{pieceShare w.val} Pk d)
      ∗ bigSep Finset.univ fun w : Fin 32 => usLoc d ↦[blkSet w]{fullShare} f) ∗ (xtLoc d ↦{restShare 32} X d) ∗ opLoc d ↦{restShare 32} Pk d) := by
    constructor
    · iintro ⟨⟨Hx, Hxr⟩, ⟨Hp, Hpr⟩, Hu⟩
      isplitl [Hx Hp Hu]
      · isplitl [Hx]
        · iexact Hx
        isplitl [Hp]
        · iexact Hp
        · iexact Hu
      isplitl [Hxr]
      · iexact Hxr
      · iexact Hpr
    · iintro ⟨⟨Hx, Hp, Hu⟩, Hxr, Hpr⟩
      isplitl [Hx Hxr]
      · isplitl [Hx]
        · iexact Hx
        · iexact Hxr
      isplitl [Hp Hpr]
      · isplitl [Hp]
        · iexact Hp
        · iexact Hpr
      · iexact Hu
  exact BI.Entails.antisymm h.1 h.2

end Cert.Proof.KI

end
-- ==== Proof.KI.TileBody.lean ====
/-
  A vector subcore's task run: what it needs at its start and what it leaves.
-/
module

public import proofs.«01_k».proof.Proof.KI.Task

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F]

local notation "𝕄" => MT nD τ sig (HIx 1) (Elt F) ℕ UU ℕ

variable (X : (d : Dev nD) → Buf (Elt F) (xtLoc d)) (Pk : (d : Dev nD) → Buf (Elt F) (opLoc d)) (U0 : (d : Dev nD) → Buf (Elt F) (usLoc d))
variable (d : Dev nD) (i : grid1.Coords)

theorem bound_zero : grid1.bound 0 = 2 := rfl
theorem bound_one : grid1.bound 1 = 16 := rfl

/-- The task's number. -/
abbrev wL (i : grid1.Coords) : Fin 32 := wid (Fin.cast bound_zero (i 0)) (Fin.cast bound_one (i 1))

/-- The task's block of queries and block of the result, as its transfers address them. -/
abbrev xK (i : grid1.Coords) : Memref sig .scVector .hbm S4x256 .f32 := (xV).slice (Rect.unit (s := S4x8192) (k1_off1 i) S4x256.size (k1_off1_inb i)) (fun _ => rfl)
abbrev uRect (i : grid1.Coords) : Rect S8192x16 := Rect.unit (s := S8192x16) (k1_off22 i) S256x16.size (k1_off22_inb i)
abbrev uK (i : grid1.Coords) : Memref sig .scVector .hbm S256x16 .f32 := (uV).slice (uRect i) (fun _ => rfl)

theorem uRect_eq : uRect i = blk (wL i) := by
  unfold uRect blk Rect.part Rect.block
  congr 1 <;> funext a
  · rw [off22_eq]
    match a with
    | 0 => simp [Shape.partIx, Shape.partSize, wid_val]; rfl
    | 1 => simp [Shape.partIx, Shape.partSize]
  · match a with
    | 0 => simp [Shape.partSize]
    | 1 => simp [Shape.partSize]

theorem set_uK : (uK i).view.set = blkSet (wL i) := by
  show ((View.whole (main_v4_scv : Ref sig .scVector)).slice (uRect i)).set = _
  rw [View.set_slice, uRect_eq]
  exact Finset.map_refl

theorem pts_uK (f : Buf (Elt F) (usLoc d)) :
    ((uK i).view.loc (V d (cV i) (jV i)) ↦[(uK i).view.set]{fullShare} f : sProp 𝕄) = usLoc d ↦[blkSet (wL i)]{fullShare} f := by
  rw [set_uK]

theorem pts_xV (q : PosShare TreeShare) (f : Buf (Elt F) (xtLoc d)) :
    ((xV).view.loc (V d (cV i) (jV i)) ↦{q} f : sProp 𝕄) = xtLoc d ↦{q} f := rfl
theorem pts_pV (q : PosShare TreeShare) (f : Buf (Elt F) (opLoc d)) :
    ((pV).view.loc (V d (cV i) (jV i)) ↦{q} f : sProp 𝕄) = opLoc d ↦{q} f := rfl

abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scoped1.sem)
abbrev cCcell (d : Dev nD) (c : Fin τ.nSC) (i : Fin τ.nSub) : GSem nD τ sig := (V d c i, .dma cc1_scoped2.sem)

theorem ownSems0_V :
    (ownSems0 (V d (cV i) (jV i)) : sProp 𝕄)
      = iprop(semVal (cAcell d (cV i) (jV i)) 0 ∗ semVal (cBcell d (cV i) (jV i)) 0 ∗ semVal (cCcell d (cV i) (jV i)) 0
          ∗ bigSep ((((ownCells (V d (cV i) (jV i))).erase (cAcell d (cV i) (jV i))).erase (cBcell d (cV i) (jV i))).erase (cCcell d (cV i) (jV i))) fun g => semVal g 0) := by
  unfold SparseCore.Cfg.ownSems0
  rw [SparseCore.bigSep_erase' ((mem_ownCells (g := cAcell d (cV i) (jV i))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV i) (jV i))).mpr ⟨rfl, by
      show (SemLoc.dma cc1_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV i) (jV i))).mpr ⟨rfl, by show (SemLoc.dma cc1_scoped2.sem : SemLoc sig).isScoped .scVector = true; decide⟩⟩⟩)]

/-- The subcore's own buffers are its three scratch buffers, each at some contents, and the rest. -/
theorem ownBufs_V :
    (ownBufs (V d (cV i) (jV i)) : sProp 𝕄)
      = iprop((∃ f, xSPts d i f) ∗ (∃ f, pSPts d i f) ∗ (∃ f, uSPts d i f)
          ∗ bigSep ((((ownRefs (τ := τ) (.scVector (cV i) (jV i))).erase ((Proc.scVector (cV i) (jV i)).devRef cc1_scratch0)).erase
              ((Proc.scVector (cV i) (jV i)).devRef cc1_scratch1)).erase ((Proc.scVector (cV i) (jV i)).devRef cc1_scratch2))
              fun b => iprop(∃ f, ((d, b) : Loc nD τ sig) ↦{fullShare} f)) := by
  unfold SparseCore.Cfg.ownBufs
  have hne : ∀ {a b : Ref sig .scVector}, a ≠ b → (Proc.scVector (cV i) (jV i)).devRef a ≠ (Proc.scVector (cV i) (jV i)).devRef b := fun h e => h (Proc.devRef_injective _ e)
  refine (SparseCore.bigSep_erase' (SparseCore.Cfg.mem_ownRefs_of_owner (p := Proc.scVector (cV i) (jV i))
    (b := (Proc.scVector (cV i) (jV i)).devRef cc1_scratch0) rfl)).trans ?_
  rw [SparseCore.bigSep_erase' (Finset.mem_erase.mpr ⟨hne (show (cc1_scratch1 : Ref sig .scVector) ≠ cc1_scratch0 by decide),
      SparseCore.Cfg.mem_ownRefs_of_owner (p := Proc.scVector (cV i) (jV i)) (b := (Proc.scVector (cV i) (jV i)).devRef cc1_scratch1) rfl⟩),
    SparseCore.bigSep_erase' (Finset.mem_erase.mpr ⟨hne (show (cc1_scratch2 : Ref sig .scVector) ≠ cc1_scratch1 by decide),
      Finset.mem_erase.mpr ⟨hne (show (cc1_scratch2 : Ref sig .scVector) ≠ cc1_scratch0 by decide),
      SparseCore.Cfg.mem_ownRefs_of_owner (p := Proc.scVector (cV i) (jV i)) (b := (Proc.scVector (cV i) (jV i)).devRef cc1_scratch2) rfl⟩⟩)]

/-- The outer loop run: every row of the scratch at its maxima. -/
theorem rows_run (harg2 : (xV).IsWhole) (harg3 : (pV).IsWhole) (harg4 : (uV).IsWhole) (harg5 : (xS).IsWhole) (harg6 : (pS).IsWhole) (harg7 : (uS).IsWhole) (v0 v1 v2 : DmaSems sig S_)
    (fx : Buf (Elt F) ((V d (cV i) (jV i)).loc cc1_scratch0)) (f6 : Buf (Elt F) ((V d (cV i) (jV i)).loc cc1_scratch1)) (f7 : Buf (Elt F) ((V d (cV i) (jV i)).loc cc1_scratch2))
    {β : Type} (kk : BitVec 32 → Prog (TpuEff nD τ sig (Elt F) Λ₀ (.scVector ((i 0).castLE hcore1) ((i 1).castLE hsub1))) β) (Q : β → sProp 𝕄) :
    iprop((xSPts d i fx ∗ pSPts d i f6 ∗ uSPts d i f7)
      ∗ (∀ w f7', ⌜Filled fx f6 f7' 256⌝ -∗ xSPts d i fx -∗ pSPts d i f6 -∗ uSPts d i f7' -∗ wp frame (wpE (defs₀ (F := F)) 𝒱₀ (V d (cV i) (jV i)) none) Set.univ (kk w) Q))
    ⊢ wp frame (wpE (defs₀ (F := F)) 𝒱₀ (V d (cV i) (jV i)) none) Set.univ
      (Scf.Loop.for k1_t1_loop k1_t1_ok 0#32 (k1_t1_body i xV harg2 pV harg3 uV harg4 xS harg5 pS harg6 uS harg7 v0 v1 v2) >>= kk) Q := by
  have hfor := Scf.wp_for_bind (M := 𝕄) frame (wpE (defs₀ (F := F)) 𝒱₀ (V d (cV i) (jV i)) none) Set.univ k1_t1_loop.lb k1_t1_loop.ub k1_t1_loop.st k1_t1_ok 0#32
    (k1_t1_body i xV harg2 pV harg3 uV harg4 xS harg5 pS harg6 uS harg7 v0 v1 v2)
    (fun n _ => iprop(xSPts d i fx ∗ pSPts d i f6 ∗ ∃ f7', uSPts d i f7' ∗ ⌜Filled fx f6 f7' (16 * n)⌝)) ?step (kk := kk) (Q := Q)
  case step =>
    intro k acc
    iintro ⟨Hx, Hp, %g, Hu, %hg⟩
    iapply (outer_run d i harg2 harg3 harg4 harg5 harg6 harg7 v0 v1 v2 fx f6 g k acc hg)
    isplitl [Hx]
    · iexact Hx
    isplitl [Hp]
    · iexact Hp
    · iexact Hu
  iintro ⟨⟨Hx, Hp, Hu⟩, Hk⟩
  ihave Hw := hfor $$ [Hx Hp Hu]
  · isplitl [Hx]
    · iexact Hx
    isplitl [Hp]
    · iexact Hp
    iexists f7
    isplitl [Hu]
    · iexact Hu
    · ipureintro
      intro r l h
      exact absurd h (by omega)
  iapply Hw
  iintro %acc ⟨Hx, Hp, %g, Hu, %hg⟩
  have ht : Scf.trips k1_t1_loop.lb k1_t1_loop.ub k1_t1_loop.st = 16 := trips1
  rw [ht] at hg
  iapply Hk $$ %acc %g %hg Hx Hp Hu

/-- What the scratch holds, sent to the task's rows, is the call's result there. -/
theorem out_rows (fx : S4x256.Idx → F .f32) (f7 : S256x16.Idx → F .f32) (g : Buf (Elt F) (usLoc d)) (hx : fx = (xK i).view.read (Elt F) (X d)) (hf : Filled fx (Pk d) f7 256) :
    ∀ j ∈ blkSet (wL i), (uK i).view.writes (Elt F) g [⟨Rect.whole S256x16, f7⟩] j = scOut X Pk d j := by
  intro j hj
  rw [← set_uK] at hj
  obtain ⟨x, -, rfl⟩ := Finset.mem_map.mp hj
  have hid : (Rect.whole S256x16).emb x = x := by
    refine funext fun a => Fin.ext ?_
    show 0 + 1 * (x a).val = (x a).val
    omega
  have hx' : (uK i).view.emb x = ((uK i).view.slice (Rect.whole S256x16)).emb x := by
    show (uK i).view.emb x = (uK i).view.emb ((Rect.whole S256x16).emb x)
    rw [hid]
  rw [hx']
  refine (View.write_emb_of_mem (v := (uK i).view.slice (Rect.whole S256x16)) _ _ (Finset.mem_univ x)).trans ?_
  rw [← hx']
  obtain ⟨r, l, rfl⟩ : ∃ (r : Fin 256) (l : Fin 16), x = ix2 r l := ⟨x 0, x 1, eq_ix2 x⟩
  refine (hf r l r.isLt).trans ?_
  have h0 : ((uK i).view.emb (ix2 r l) 0).val = (2 * (i 1).val + (i 0).val) * 256 + r.val := by
    show k1_off22 i 0 + 1 * r.val = _
    rw [off22_eq]; show (2 * (i 1).val + (i 0).val) * 256 + 1 * r.val = _; omega
  have h1 : ((uK i).view.emb (ix2 r l) 1).val = l.val := by
    show k1_off22 i 1 + 1 * l.val = _
    rw [off22_eq]; show 0 + 1 * l.val = _; omega
  unfold scOut tileMax
  rw [h0, h1]
  refine congrArg (fun q => best q (lanePts (Pk d) l.val) 1024) (funext fun c => ?_)
  have e0 : (i 0).val < 2 := (i 0).isLt
  have e1 : (i 1).val < 16 := (i 1).isLt
  have hr := r.isLt
  unfold xcol pt4
  subst hx
  refine congrArg (X d) (funext fun a => ?_)
  match a with
  | ⟨0, _⟩ => exact Fin.ext (by
      show k1_off1 i 0 + 1 * c.val = c.val
      rw [off1_eq]; show 0 + 1 * c.val = c.val; omega)
  | ⟨1, _⟩ => exact Fin.ext (by
      show k1_off1 i 1 + 1 * (r.val % 256) = ((2 * (i 1).val + (i 0).val) * 256 + r.val) % 8192
      rw [off1_eq]; show (2 * (i 1).val + (i 0).val) * 256 + 1 * (r.val % 256) = _; omega)

theorem out_pts (f7 pl : S256x16.Idx → F .f32) (g : Buf (Elt F) (usLoc d)) (fx : S4x256.Idx → F .f32) (fp : S4x16384.Idx → F .f32)
    (hx : fx = (xK i).view.read (Elt F) (X d)) (hp : fp = Pk d) (hpl : pl = f7) (hf : Filled fx fp f7 256) :
    (usLoc d ↦[blkSet (wL i)]{fullShare} (uK i).view.writes (Elt F) g [⟨Rect.whole S256x16, pl⟩] : sProp 𝕄)
      ⊢ usLoc d ↦[blkSet (wL i)]{fullShare} scOut X Pk d := by
  subst hp hpl
  exact Entails.of_eq (pointsTo_congr (out_rows X Pk d i fx pl g hx hf))

set_option maxHeartbeats 4000000 in
/-- The task of vector subcore `(i 0, i 1)` of device `d`. -/
theorem tile_body (hF : (K (F := F)).Facts) (O : CellTallies nD τ sig (HIx 1)) (W : Waits sig (HIx 1)) (hO : ∀ g, O g none = 0) :
    iprop(levAts (K (F := F)).L (K (F := F)).lev ∗ emp ∗ taskPts X Pk d (wL i) (U0 d)
        ∗ scopedBufs (V d (cV i) (jV i)) ∗ scopedSems0 (V d (cV i) (jV i)) ∗ owes (V d (cV i) (jV i)) O W)
      ⊢ wp frame (wpE (defs₀ (F := F)) 𝒱₀ (V d (cV i) (jV i)) none) Set.univ
          (cc1_sck i xV (Memref.isWhole_whole _) pV (Memref.isWhole_whole _) uV (Memref.isWhole_whole _)
            xS (Memref.isWhole_whole _) pS (Memref.isWhole_whole _) uS (Memref.isWhole_whole _) cc1_scoped0 cc1_scoped1 cc1_scoped2)
          fun _ => iprop(taskPts X Pk d (wL i) (scOut X Pk d)
            ∗ scopedBufs (V d (cV i) (jV i)) ∗ scopedSems0 (V d (cV i) (jV i))
            ∗ ∃ W', ⌜∀ p ∈ W', p ∈ W ∨ p.2 = none⌝ ∗ owes (V d (cV i) (jV i)) O W') := by
  simp only [cc1_sck_eq_skeleton]; unfold cc1_sck_skel
  rw [(K (F := F)).scopedBufs_V hF d (cV i) (jV i), SparseCore.Cfg.scopedSems0_V (Val := Elt F) d (cV i) (jV i), ownSems0_V, ownBufs_V]
  iintro ⟨#Hlv, -, ⟨Hx, Hp, Hu⟩, ⟨⟨%fx, Hxs⟩, ⟨%fp, Hps⟩, ⟨%fu, Hus⟩, Hbufs⟩, ⟨HsemA, HsemB, HsemC, Hsems⟩, HO⟩
  ihave Hmw := (show levAts (K (F := F)).L (K (F := F)).lev ⊢ Transfers.MayWaits (V d (cV i) (jV i)) (default : HIx 1) O from
    (K (F := F)).mayWaits_none (thr := V d (cV i) (jV i)) hO) $$ Hlv
  ihave Hx' := (Entails.of_eq (pts_xV (F := F) d i _ _).symm) $$ Hx
  ihave Hp' := (Entails.of_eq (pts_pV (F := F) d i _ _).symm) $$ Hp
  ihave Hu' := (Entails.of_eq (pts_uK (F := F) d i _).symm) $$ Hu
  sl_exec
  rw [View.write_whole_univ, View.write_whole_univ]
  iapply (rows_run d i _ _ _ _ _ _ cc1_scoped0 cc1_scoped1 cc1_scoped2 _ _ _ _ _)
  isplitl [Hxs Hps Hus]
  · isplitl [Hxs]
    · iexact Hxs
    isplitl [Hps]
    · iexact Hps
    · iexact Hus
  iintro %w %f7 %hf Hxs Hps Hus
  sl_exec
  sl_step
  isplitl [Hx' Hp' Hu']
  · isplitl [Hx']
    · iexact Hx'
    isplitl [Hp']
    · iexact Hp'
    ihave Hu2 := (Entails.of_eq (pts_uK (F := F) d i _)) $$ Hu'
    ihave Hu3 := (out_pts X Pk d i f7 (tile_body.sl.dma0_2 f7) (U0 d) _ _ rfl rfl rfl hf) $$ Hu2
    iexact Hu3
  isplitl [Hxs Hps Hus Hbufs]
  · isplitl [Hxs]
    · iexists _; iexact Hxs
    isplitl [Hps]
    · iexists _; iexact Hps
    isplitl [Hus]
    · iexists _; iexact Hus
    · iexact Hbufs
  isplitl [HsemA HsemB HsemC Hsems]
  · isplitl [HsemA]
    · iexact HsemA
    isplitl [HsemB]
    · iexact HsemB
    isplitl [HsemC]
    · iexact HsemC
    · iexact Hsems
  iexists _
  isplitr
  swap
  · iexact HO
  ipureintro
  intro p hp
  rcases Finset.mem_insert.mp hp with hp | hp
  · exact .inr (hp ▸ rfl)
  rcases Finset.mem_insert.mp hp with hp | hp
  · exact .inr (hp ▸ rfl)
  rcases Finset.mem_insert.mp hp with hp | hp
  · exact .inr (hp ▸ rfl)
  exact .inl hp

/-! ## The call's obligation -/

/-- The grid's coordinates from a subcore's. -/
def gridAt (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_sck (gridAt c s)
          xV (Memref.isWhole_whole _) pV (Memref.isWhole_whole _) uV (Memref.isWhole_whole _)
          xS (Memref.isWhole_whole _) pS (Memref.isWhole_whole _) uS (Memref.isWhole_whole _) cc1_scoped0 cc1_scoped1 cc1_scoped2) ⟨⟩ c s := rfl

theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW, HO⟩
  isplitl [HA]
  · iexact HA
  isplitl [HB]
  · iexact HB
  isplitl [HC]
  · iexact HC
  iexists W'
  isplitr
  · ipureintro
    exact fun p hp => (hW p hp).imp_right Or.inl
  · iexact HO

set_option maxRecDepth 16384 in
theorem tileObl : (K (F := F)).TileObl (D (F := F)) 𝒱 (P X Pk U0) v₀ 0 := by
  intro d c s O W hO _ _
  simp only [show (P X Pk U0).ox = fun _ _ => 0 from rfl, add_zero]
  have hcs : ((K (F := F)).core 0 c).val < grid1.bound 0 ∧ ((K (F := F)).sub 0 s).val < grid1.bound 1 := ⟨c.isLt, s.isLt⟩
  change _ ⊢ wp _ _ _ (Pipeline.liftProg (defs₀ (F := F) (.scVector ((K (F := F)).core 0 c) ((K (F := F)).sub 0 s)) 1 ())) _
  refine BI.Entails.trans ?_ (Pipeline.wp_liftProg (D (F := F)) (Pipeline.defs_kernel pcfgs defs₀) 𝒱₀ _ Set.univ none _ _)
  rw [defs₀_vector]
  simp only [SparseCore.onTile, hcs, and_self, ↓reduceDIte]
  exact (tile_body X Pk U0 d (gridAt ⟨_, hcs.1⟩ ⟨_, hcs.2⟩) facts O W hO).trans (wp_mono frame _ _ fun _ => waits_weaken)

end Cert.Proof.KI

end
-- ==== Proof.KI.Main.lean ====
/-
  The program on the TensorCore: its host operations, the three kernels' regions and the SparseCore call, in order.
-/
module

public import proofs.«01_k».proof.Proof.KI.Reg2
public import proofs.«01_k».proof.Proof.KI.TileBody
public import Idealize.ShloMosaic.Lib.Pipeline.Frame

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic
open Idealize.ShloMosaic.TcCoe
open Idealize.ShloMosaic.Pipeline (Dat BodyObligation cellOf)

variable {F : FTy → Type} [FloatOps F]

local notation "𝕄" => MT nD τ sig (HIx 1) (Elt F) ℕ UU ℕ

/-- No pipeline prefetches a table. -/
abbrev adm : (p : Fin 3) → (pcfgs (F := F) p).Adm := fun p => (cfgs p).toPCfg_adm

/-- What the launch deals pipeline `p` on core `d`. -/
abbrev dealt (p : Fin 3) (d : Dev nD) : sProp 𝕄 :=
  iprop(Pipeline.cellsGhost (Pipeline.pin (pcfgs (F := F)) adm) EP p d ∗ Pipeline.toksInit (Pipeline.pin (pcfgs (F := F)) adm) EP p d)

theorem region_step [∀ e, Nonempty (Elt F e)] (pd : Dats (F := F) adm) (p : Fin 3) (n b : ℕ) (V Vp : Bufs F) (H : Fits adm pd p n b V Vp)
    (L : Pipeline.LaunchFacts (nD := nD) (τ := τ) cfgs p) (d : Dev nD) (Φ : PUnit → sProp 𝕄) :
    iprop(levAts (K (F := F)).L (K (F := F)).lev ∗ boundary (T d) ∗ unscopedBufs d (V d) ∗ OW d n b ∗ dealt p d
        ∗ ((boundary (T d) ∗ unscopedBufs d (Vp d) ∗ OW d n b) -∗ Φ ⟨⟩))
      ⊢ wp frame (wpE ((K (F := F)).defs (D (F := F))) 𝒱 (T d) none) Set.univ (Prog.lift (.customCall (SparseCore.inner (Pipeline.entry p)) ())) Φ := by
  refine BIBase.Entails.trans ?_ ((K (F := F)).wp_liftProg (D (F := F)) 𝒱 (T d) Set.univ none (Prog.op (.customCall (Pipeline.entry p) ()) .ret) Φ)
  have h := Pipeline.RegionSeg.wp (pcfgs (F := F)) adm pd none cellOf_inj EP defs₀ 𝒱₀ (K (F := F)).L (K (F := F)).lev
    (seg adm pd p n b V Vp H L fun _ => BI.emp) d none (by nofun) .ret Φ
  rw [show (seg adm pd p n b V Vp H L fun _ => BI.emp).pre d = iprop(unscopedBufs d (V d) ∗ BI.emp ∗ OW d n b) from rfl,
    show (seg adm pd p n b V Vp H L fun _ => BI.emp).post d = iprop(unscopedBufs d (Vp d) ∗ BI.emp ∗ OW d n b) from rfl] at h
  refine BIBase.Entails.trans ?_ h
  iintro ⟨Hl, Hb, Hu, HO, Hg, Hk⟩
  isplitl [Hk]
  · iintro ⟨Hb, Hu, -, HO⟩
    rw [wp_ret]
    imodintro
    iapply Hk
    isplitl [Hb]
    · iexact Hb
    isplitl [Hu] <;> iassumption
  isplitl [Hb]
  · iexact Hb
  isplitl [Hu HO]
  · isplitl [Hu]
    · iexact Hu
    isplitr
    · iempintro
    iexact HO
  isplitl [Hl]
  · iexact Hl
  icases Hg with ⟨H1, H2⟩
  isplitl [H1] <;> iassumption

/-! ## The buffers along the program -/

abbrev opT1 : HloOp τ sig (Elt F) := StableHlo.unary main_arg1 main_v0
  ((transpose S3x65536 [1, 0] · transposes_S65536x3_S3x65536_1_0) : (⟨S65536x3, .f32⟩ : BufTy).Contents (Elt F) → (⟨S3x65536, .f32⟩ : BufTy).Contents (Elt F))
abbrev opT2 : HloOp τ sig (Elt F) := StableHlo.unary main_arg0 main_v2
  ((transpose S3x8192 [1, 0] · transposes_S8192x3_S3x8192_1_0) : (⟨S8192x3, .f32⟩ : BufTy).Contents (Elt F) → (⟨S3x8192, .f32⟩ : BufTy).Contents (Elt F))
abbrev opC : HloOp τ sig (Elt F) := StableHlo.nullary main_c (constantI S_ 32 0#32)
abbrev opCvt : HloOp τ sig (Elt F) := StableHlo.unary main_c main_call0_v0
  (sitofp .f32 : (⟨S_, .i32⟩ : BufTy).Contents (Elt F) → (⟨S_, .f32⟩ : BufTy).Contents (Elt F))
abbrev opPad : HloOp τ sig (Elt F) := StableHlo.binary main_v2 main_call0_v0 main_v3
  ((fun x v => pad S4x8192 ![0, 0] ![1, 0] ![0, 0] x v pads_S3x8192_S4x8192_010_000 h_S_) :
    (⟨S3x8192, .f32⟩ : BufTy).Contents (Elt F) → (⟨S_, .f32⟩ : BufTy).Contents (Elt F) → (⟨S4x8192, .f32⟩ : BufTy).Contents (Elt F))

variable (m : (ℓ : Loc nD τ sig) → Buf (Elt F) ℓ)

/-- A buffer's name among the device's. -/
abbrev dv (r : Ref sig .tc) : DevRef τ sig := Proc.devRef .tc r

/-- Contents `v` put into buffer `r`. -/
abbrev put (W : Valuation τ sig (Elt F)) (r : Ref sig .tc) (v : (dv r).ty.Contents (Elt F)) : Valuation τ sig (Elt F) := Function.update W (dv r) v

def W1 (d : Dev nD) : Valuation τ sig (Elt F) := opT1.result (StableHlo.launchContents m d)
def W2 (d : Dev nD) : Valuation τ sig (Elt F) :=
  put (put (W1 m d) main_v1_0 (k0_pay2 (W1 m d (dv main_v0)))) main_v1_1 (k0_pay3 (W1 m d (dv main_v0)))
def W3 (d : Dev nD) : Valuation τ sig (Elt F) := opPad.result (opCvt.result (opC.result (opT2.result (W2 m d))))

abbrev X (d : Dev nD) : Buf (Elt F) (xtLoc d) := W3 m d (dv main_v3)
abbrev Pk (d : Dev nD) : Buf (Elt F) (opLoc d) := W3 m d (dv main_v1_0)
abbrev U0 (d : Dev nD) : Buf (Elt F) (usLoc d) := W3 m d (dv main_v4)

def W4 (d : Dev nD) : Valuation τ sig (Elt F) := put (W3 m d) main_v4 (scOut (X m) (Pk m) d)
def W5 (d : Dev nD) : Valuation τ sig (Elt F) := put (W4 m d) main_v5 (searched (W4 m d (dv main_arg0)) (W4 m d (dv main_v1_1)))
def W6 (d : Dev nD) : Valuation τ sig (Elt F) :=
  put (W5 m d) main_v6 (combined (W5 m d (dv main_arg0)) (W5 m d (dv main_v5)) (W5 m d (dv main_v4)))

/-- A valuation of each core as its buffers. -/
abbrev toBufs (W : Dev nD → Valuation τ sig (Elt F)) : Bufs F := fun c r => W c (dv r)

theorem put_ne (W : Valuation τ sig (Elt F)) {r r' : Ref sig .tc} (v : (dv r).ty.Contents (Elt F)) (h : r' ≠ r) : put W r v (dv r') = W (dv r') :=
  Function.update_of_ne (StableHlo.devRef_ne_of_ne h) _ _

theorem put_self (W : Valuation τ sig (Elt F)) (r : Ref sig .tc) (v : (dv r).ty.Contents (Elt F)) : put W r v (dv r) = v :=
  Function.update_self _ _ _

theorem fits_pack (n b : ℕ) : Fits adm (pd0 (toBufs (W1 m)) adm n b) 0 n b (toBufs (W1 m)) (toBufs (W2 m)) :=
  fits0 _ adm n b _ (fun c => (put_ne _ _ (by decide)).trans (put_self _ _ _)) (fun c => put_self _ _ _)
    fun c r h0 h1 => (put_ne _ _ h1).trans (put_ne _ _ h0)

theorem fits_nn (n b : ℕ) : Fits adm (pd2 (toBufs (W4 m)) adm n b) 1 n b (toBufs (W4 m)) (toBufs (W5 m)) :=
  fits2 _ adm n b _ (fun c => put_self _ _ _) fun c r h => put_ne _ _ h

theorem fits_combine (n b : ℕ) : Fits adm (pd3 (toBufs (W5 m)) adm n b) 2 n b (toBufs (W5 m)) (toBufs (W6 m)) :=
  fits3 _ adm n b _ (fun c => put_self _ _ _) fun c r h => put_ne _ _ h

/-! ## The unscoped buffers as one holding -/

abbrev uc : Finset (DevRef τ sig) := Pipeline.ucRefs τ sig

theorem uc_mem (r : Ref sig .tc) (h : r.isScoped = false) : dv r ∈ uc := by
  unfold uc Pipeline.ucRefs
  refine Finset.mem_filter.mpr ⟨StableHlo.devRef_mem_tcRefs r, ?_⟩
  show ¬ (Proc.devRef .tc r : DevRef τ sig).isScoped = true
  rw [show (Proc.devRef .tc r : DevRef τ sig).isScoped = r.isScoped from rfl, h]
  exact Bool.false_ne_true

theorem opT1_sub : (opT1 (F := F)).bufs ⊆ uc :=
  Finset.insert_subset (uc_mem main_arg1 rfl) (Finset.singleton_subset_iff.mpr (uc_mem main_v0 rfl))
theorem opT2_sub : (opT2 (F := F)).bufs ⊆ uc :=
  Finset.insert_subset (uc_mem main_arg0 rfl) (Finset.singleton_subset_iff.mpr (uc_mem main_v2 rfl))
theorem opC_sub : (opC (F := F)).bufs ⊆ uc := Finset.singleton_subset_iff.mpr (uc_mem main_c rfl)
theorem opCvt_sub : (opCvt (F := F)).bufs ⊆ uc :=
  Finset.insert_subset (uc_mem main_c rfl) (Finset.singleton_subset_iff.mpr (uc_mem main_call0_v0 rfl))
theorem opPad_sub : (opPad (F := F)).bufs ⊆ uc :=
  Finset.insert_subset (uc_mem main_v2 rfl) (Finset.insert_subset (uc_mem main_call0_v0 rfl) (Finset.singleton_subset_iff.mpr (uc_mem main_v3 rfl)))

/-- The SparseCore call's buffers. -/
abbrev trio : Finset (DevRef τ sig) := {dv main_v3, dv main_v1_0, dv main_v4}

theorem trio_sub : trio ⊆ uc :=
  Finset.insert_subset (uc_mem main_v3 rfl) (Finset.insert_subset (uc_mem main_v1_0 rfl) (Finset.singleton_subset_iff.mpr (uc_mem main_v4 rfl)))

theorem held_trio (d : Dev nD) (W : Valuation τ sig (Elt F)) :
    (StableHlo.held (T d) uc W : sProp 𝕄)
      = iprop(((xtLoc d ↦{fullShare} W (dv main_v3)) ∗ (opLoc d ↦{fullShare} W (dv main_v1_0)) ∗ usLoc d ↦{fullShare} W (dv main_v4))
          ∗ StableHlo.held (T d) (uc \ trio) W) := by
  rw [StableHlo.held_sub_split (T d) trio_sub W]
  congr 1
  unfold StableHlo.held trio
  rw [SparseCore.bigSep_insert' (by decide), SparseCore.bigSep_insert' (by decide), bigSep_singleton]

theorem held_rest (d : Dev nD) : (StableHlo.held (T d) (uc \ trio) (W4 m d) : sProp 𝕄) = StableHlo.held (T d) (uc \ trio) (W3 m d) :=
  StableHlo.held_congr (T d) fun b hb => Function.update_of_ne
    (fun e => (Finset.mem_sdiff.mp hb).2 (by rw [e]; exact Finset.mem_insert_of_mem (Finset.mem_insert_of_mem (Finset.mem_singleton_self _)))) _ _

theorem st_eq (d : Dev nD) : (bigSep Finset.univ fun c : Fin ((K (F := F)).nCore 0) => (P (X m) (Pk m) (U0 m)).st 0 d c)
    = (bigSep Finset.univ fun c : Fin 2 => bigSep Finset.univ fun s : Fin 16 => taskPts (X m) (Pk m) d (wid c s) (U0 m d) : sProp 𝕄) := rfl

theorem dn_eq (d : Dev nD) : (bigSep Finset.univ fun c : Fin ((K (F := F)).nCore 0) => (P (X m) (Pk m) (U0 m)).dn 0 d c)
    = (bigSep Finset.univ fun c : Fin 2 => bigSep Finset.univ fun s : Fin 16 => taskPts (X m) (Pk m) d (wid c s) (scOut (X m) (Pk m) d) : sProp 𝕄) := rfl

theorem W4_x (d : Dev nD) : W4 m d (dv main_v3) = X m d := put_ne _ _ (by decide)
theorem W4_p (d : Dev nD) : W4 m d (dv main_v1_0) = Pk m d := put_ne _ _ (by decide)
theorem W4_u (d : Dev nD) : W4 m d (dv main_v4) = scOut (X m) (Pk m) d := put_self _ _ _

/-- The SparseCore call: the maxima of its points in place of whatever the buffer held. -/
theorem call_step (κ : GSem nD τ sig → ℕ) (d : Dev nD) (Φ : PUnit → sProp 𝕄) :
    iprop((K (F := F)).ctx EH (P (X m) (Pk m) (U0 m)) κ ∗ (K (F := F)).tcSt EH d 0 ∗ StableHlo.held (T d) uc (W3 m d)
        ∗ (((K (F := F)).tcSt EH d 1 ∗ StableHlo.held (T d) uc (W4 m d)) -∗ Φ ⟨⟩))
      ⊢ wp frame (wpE ((K (F := F)).defs (D (F := F))) 𝒱 (T d) none) Set.univ (sc.run d 0) Φ := by
  rw [held_trio d (W3 m d), held_trio d (W4 m d), held_rest, W4_x, W4_p, W4_u, tasks_eq (X m) (Pk m) d (U0 m d), tasks_eq (X m) (Pk m) d (scOut (X m) (Pk m) d)]
  iintro ⟨#Hctx, Hst, ⟨⟨Htasks, Hx, Hp⟩, Hrest⟩, Hk⟩
  iapply ((K (F := F)).wp_run (D (F := F)) 𝒱 (EH := EH) (P := P (X m) (Pk m) (U0 m)) κ d 0) $$ [Hst Htasks Hx Hp Hrest Hk]
  isplitr
  · iexact Hctx
  isplitl [Hst]
  · iexact Hst
  rw [st_eq, dn_eq]
  isplitl [Htasks]
  · iexact Htasks
  iintro ⟨Hst, Htasks⟩
  iapply Hk
  isplitl [Hst]
  · iexact Hst
  isplitr [Hrest]
  · isplitl [Htasks]
    · iexact Htasks
    isplitl [Hx] <;> iassumption
  iexact Hrest

/-! ## The whole of @main -/

theorem tcSt_owes (d : Dev nD) (n : ℕ) :
    ∃ b, ((K (F := F)).tcSt EH d n : sProp 𝕄) ⊢ iprop(OW d n b ∗ (OW d n b -∗ (K (F := F)).tcSt EH d n)) := by
  refine ⟨8 * n, ?_⟩
  unfold SparseCore.Cfg.tcSt OW
  iintro ⟨HO, Hrest⟩
  isplitl [HO]
  · iexact HO
  iintro HO
  isplitl [HO]
  · iexact HO
  iexact Hrest

theorem region_held [∀ e, Nonempty (Elt F e)] (pd : ℕ → Dats (F := F) adm) (p : Fin 3) (n : ℕ) (W W' : Dev nD → Valuation τ sig (Elt F))
    (H : ∀ b, Fits adm (pd b) p n b (toBufs W) (toBufs W')) (L : Pipeline.LaunchFacts (nD := nD) (τ := τ) cfgs p) (d : Dev nD) (Φ : PUnit → sProp 𝕄) :
    iprop(levAts (K (F := F)).L (K (F := F)).lev ∗ boundary (T d) ∗ StableHlo.held (T d) uc (W d) ∗ (K (F := F)).tcSt EH d n ∗ dealt p d
        ∗ ((boundary (T d) ∗ StableHlo.held (T d) uc (W' d) ∗ (K (F := F)).tcSt EH d n) -∗ Φ ⟨⟩))
      ⊢ wp frame (wpE ((K (F := F)).defs (D (F := F))) 𝒱 (T d) none) Set.univ (Prog.lift (.customCall (SparseCore.inner (Pipeline.entry p)) ())) Φ := by
  obtain ⟨b, hb⟩ := tcSt_owes (F := F) d n
  have e : ∀ V : Valuation τ sig (Elt F), (StableHlo.held (T d) uc V : sProp 𝕄) = unscopedBufs d (fun r => V (dv r)) :=
    fun V => (Pipeline.unscopedBufs_held d V).symm
  rw [e, e]
  iintro ⟨Hl, Hb, Hu, Hst, Hg, Hk⟩
  ihave Hst := hb $$ Hst
  icases Hst with ⟨HO, Hst⟩
  iapply (region_step (pd b) p n b (toBufs W) (toBufs W') (H b) L d Φ)
  isplitl [Hl]
  · iexact Hl
  isplitl [Hb]
  · iexact Hb
  isplitl [Hu]
  · iexact Hu
  isplitl [HO]
  · iexact HO
  isplitl [Hg]
  · iexact Hg
  iintro ⟨Hb, Hu, HO⟩
  iapply Hk
  isplitl [Hb]
  · iexact Hb
  isplitl [Hu]
  · iexact Hu
  iapply Hst
  iexact HO

/-- What the launch deals the core. -/
abbrev G (d : Dev nD) : sProp 𝕄 := iprop(dealt (F := F) 0 d ∗ dealt (F := F) 1 d ∗ dealt (F := F) 2 d)

/-- What the core ends holding: every unscoped buffer at its last contents. -/
abbrev FIN (d : Dev nD) : sProp 𝕄 := StableHlo.held (T d) uc (W6 m d)

variable (ρ : Dev nD → PrngReg)

theorem launch_held (d : Dev nD) : (unscopedBufs d (fun b => m ((SparseCore.T d).loc b)) : sProp 𝕄) = StableHlo.held (T d) uc (StableHlo.launchContents m d) :=
  Pipeline.unscopedBufs_held d (StableHlo.launchContents m d)

set_option backward.isDefEq.respectTransparency.types false in
theorem hmain [∀ e, Nonempty (Elt F e)] (κ : GSem nD τ sig → ℕ) (d : Dev nD) :
    iprop((K (F := F)).ctx EH (P (X m) (Pk m) (U0 m)) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [launch_held]
  simp only [main, fn_pad.body, wp_bind, wp_pure]
  iintro ⟨#Hctx, Hst, ⟨Hb, Hh, Hts, -⟩, Hg0, Hg1, Hg2⟩
  ihave #Hl := (SparseCore.Cfg.ctx_levAts (K := K (F := F)) (EH := EH) (P := P (X m) (Pk m) (U0 m)) κ) $$ Hctx
  iapply (StableHlo.wp_hlo_within 𝒱 (T d) none Set.univ (op := opT1) (S := uc) opT1_sub (V := StableHlo.launchContents m d)) $$ [Hb Hh]
  · isplitl [Hb] <;> iassumption
  iintro ⟨Hb, Hh⟩
  rw [wp_ret]
  imodintro
  iapply (region_held (fun b => pd0 (toBufs (W1 m)) adm 0 b) 0 0 (W1 m) (W2 m) (fun b => fits_pack m 0 b) launch0 d)
  isplitr
  · iexact Hl
  isplitl [Hb]
  · iexact Hb
  isplitl [Hh]
  · iexact Hh
  isplitl [Hst]
  · iexact Hst
  isplitl [Hg0]
  · iexact Hg0
  iintro ⟨Hb, Hh, Hst⟩
  iapply (StableHlo.wp_hlo_within 𝒱 (T d) none Set.univ (op := opT2) (S := uc) opT2_sub (V := W2 m d)) $$ [Hb Hh]
  · isplitl [Hb] <;> iassumption
  iintro ⟨Hb, Hh⟩
  rw [wp_ret]
  imodintro
  iapply (StableHlo.wp_hlo_within 𝒱 (T d) none Set.univ (op := opC) (S := uc) opC_sub (V := opT2.result (W2 m d))) $$ [Hb Hh]
  · isplitl [Hb] <;> iassumption
  iintro ⟨Hb, Hh⟩
  rw [wp_ret]
  imodintro
  iapply (StableHlo.wp_hlo_within 𝒱 (T d) none Set.univ (op := opCvt) (S := uc) opCvt_sub (V := opC.result (opT2.result (W2 m d)))) $$ [Hb Hh]
  · isplitl [Hb] <;> iassumption
  iintro ⟨Hb, Hh⟩
  rw [wp_ret]
  imodintro
  iapply (StableHlo.wp_hlo_within 𝒱 (T d) none Set.univ (op := opPad) (S := uc) opPad_sub (V := opCvt.result (opC.result (opT2.result (W2 m d))))) $$ [Hb Hh]
  · isplitl [Hb] <;> iassumption
  iintro ⟨Hb, Hh⟩
  rw [wp_ret]
  imodintro
  imodintro
  iapply (call_step m κ d)
  isplitr
  · iexact Hctx
  isplitl [Hst]
  · iexact Hst
  isplitl [Hh]
  · iexact Hh
  iintro ⟨Hst, Hh⟩
  iapply (region_held (fun b => pd2 (toBufs (W4 m)) adm 1 b) 1 1 (W4 m) (W5 m) (fun b => fits_nn m 1 b) launch2 d)
  isplitr
  · iexact Hl
  isplitl [Hb]
  · iexact Hb
  isplitl [Hh]
  · iexact Hh
  isplitl [Hst]
  · iexact Hst
  isplitl [Hg1]
  · iexact Hg1
  iintro ⟨Hb, Hh, Hst⟩
  iapply (region_held (fun b => pd3 (toBufs (W5 m)) adm 1 b) 2 1 (W5 m) (W6 m) (fun b => fits_combine m 1 b) launch3 d)
  isplitr
  · iexact Hl
  isplitl [Hb]
  · iexact Hb
  isplitl [Hh]
  · iexact Hh
  isplitl [Hst]
  · iexact Hst
  isplitl [Hg2]
  · iexact Hg2
  iintro ⟨Hb, Hh, Hst⟩
  imodintro
  isplitl [Hst]
  · iexact Hst
  isplitl [Hh]
  · iexact Hh
  isplitl [Hb] <;> iassumption

end Cert.Proof.KI

end
-- ==== Proof.KI.Launch.lean ====
/-
  The launch: what the machine starts with is dealt out, the program runs, and the final memory is read.
-/
module

public import proofs.«01_k».proof.Proof.KI.Main

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic
open Idealize.ShloMosaic.TcCoe
open Idealize.ShloMosaic.Pipeline (Dat BodyObligation cellOf)

variable {F : FTy → Type} [FloatOps F]

local notation "𝕄" => MT nD τ sig (HIx 1) (Elt F) ℕ UU ℕ

/-- The pipelines' share of the ghost state at the start. -/
def uP : UP :=
  initOf (Pipeline.cells (Pipeline.pin (pcfgs (F := F)) adm) cellOf_inj) (Pipeline.launchToks (Pipeline.pin (pcfgs (F := F)) adm) cellOf_inj)

/-- The ghost state at the start: the SparseCore handshake's and the pipelines'. -/
def u₀ : UU := (initOf (K (F := F)).hsCells (K (F := F)).hsToks, (uP (F := F), 1))

variable (m : (ℓ : Loc nD τ sig) → Buf (Elt F) ℓ) (ρ : Dev nD → PrngReg)

theorem own_left : (BI.own ((embR : Emb (UP × Counters) 𝕄) ((uP (F := F), 1) : UP × Counters)) : sProp 𝕄) ⊢ BI.own (EP (uP (F := F))) :=
  (own_pair_emb (embR : Emb (UP × Counters) 𝕄) (uP (F := F)) (1 : Counters)).trans sep_elim_left

theorem three (Φ : Fin 3 → sProp 𝕄) : bigSep Finset.univ Φ = iprop(Φ 0 ∗ Φ 1 ∗ Φ 2) := by
  rw [show (Finset.univ : Finset (Fin 3)) = {0, 1, 2} from by decide, SparseCore.bigSep_insert' (by decide), SparseCore.bigSep_insert' (by decide),
    bigSep_singleton]

theorem G_eq (d : Dev nD) : iprop((bigSep Finset.univ fun p => Pipeline.cellsGhost (Pipeline.pin (pcfgs (F := F)) adm) EP p d)
    ∗ bigSep Finset.univ fun p => Pipeline.toksInit (Pipeline.pin (pcfgs (F := F)) adm) EP p d) = (G (F := F) d : sProp 𝕄) := by
  rw [← bigSep_sep', three]

theorem deal : (BI.own (EP (uP (F := F))) : sProp 𝕄) ⊢ |={Set.univ}=> bigSep Finset.univ (G (F := F)) := by
  unfold uP
  iintro HP
  imod (Pipeline.fund_ghost (Pipeline.pin (pcfgs (F := F)) adm) EP cellOf_inj) $$ HP with ⟨Hg, Ht⟩
  imodintro
  rw [show (bigSep Finset.univ (G (F := F)) : sProp 𝕄) = _ from bigSep_congr fun d _ => (G_eq (F := F) d).symm, bigSep_sep']
  isplitl [Hg]
  · iexact Hg
  iexact Ht

theorem hu₀ : (ownU (u₀ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P (X m) (Pk m) (U0 m)).x q thr) := by
  unfold u₀
  iintro Hu
  ihave H := (ownU_pair (initOf (K (F := F)).hsCells (K (F := F)).hsToks) ((uP (F := F), 1) : UP × Counters)) $$ Hu
  icases H with ⟨HH, HR⟩
  ihave HP := (own_left (F := F)) $$ HR
  ihave HG := (deal (F := F)) $$ HP
  imod HG
  imodintro
  isplitl [HH]
  · iexact HH
  isplitl [HG]
  · iexact HG
  rw [show (bigSep Finset.univ fun thr : Thread nD τ => bigSep Finset.univ fun q : Fin 1 => (P (X m) (Pk m) (U0 m)).x q thr)
    = (bigSep Finset.univ fun _ => iprop(emp) : sProp 𝕄) from bigSep_congr fun _ _ => bigSep_univ_of_subsingleton (0 : Fin 1), show (bigSep Finset.univ fun _ : Thread nD τ => iprop(emp) : sProp 𝕄) = iprop(emp) from bigSep_emp_const _]
  iempintro

/-! ## The final memory -/

/-- The buffers read at the end. -/
abbrev ends : Finset (DevRef τ sig) := {dv main_arg0, dv main_arg1, dv main_v6}

theorem ends_sub : ends ⊆ uc :=
  Finset.insert_subset (uc_mem main_arg0 rfl) (Finset.insert_subset (uc_mem main_arg1 rfl) (Finset.singleton_subset_iff.mpr (uc_mem main_v6 rfl)))

/-- What the program leaves in its result. -/
def out (d : Dev nD) : FVec F S8192x1 .f32 :=
  combined (m ((SparseCore.T d).loc main_arg0))
    (searched (m ((SparseCore.T d).loc main_arg0)) (k0_pay3 (transpose S3x65536 [1, 0] (m ((SparseCore.T d).loc main_arg1)) transposes_S65536x3_S3x65536_1_0)))
    (scOut (fun d => pad S4x8192 ![0, 0] ![1, 0] ![0, 0] (transpose S3x8192 [1, 0] (m ((SparseCore.T d).loc main_arg0)) transposes_S8192x3_S3x8192_1_0)
        (sitofp .f32 (constantI S_ 32 0#32)) pads_S3x8192_S4x8192_010_000 h_S_)
      (fun d => k0_pay2 (transpose S3x65536 [1, 0] (m ((SparseCore.T d).loc main_arg1)) transposes_S65536x3_S3x65536_1_0)) d)

theorem W1_ne (d : Dev nD) {r : Ref sig .tc} (h : r ≠ main_v0) : W1 m d (dv r) = m ((SparseCore.T d).loc r) :=
  StableHlo.unary_result_ne _ _ _ _ _ _ h

theorem W1_v0 (d : Dev nD) :
    W1 m d (dv main_v0) = transpose S3x65536 [1, 0] (m ((SparseCore.T d).loc main_arg1)) transposes_S65536x3_S3x65536_1_0 :=
  StableHlo.unary_result _ _ _ _ _ _

theorem W2_ne (d : Dev nD) {r : Ref sig .tc} (h0 : r ≠ main_v1_0) (h1 : r ≠ main_v1_1) : W2 m d (dv r) = W1 m d (dv r) :=
  (put_ne _ _ h1).trans (put_ne _ _ h0)

theorem W3_ne (d : Dev nD) {r : Ref sig .tc} (h2 : r ≠ main_v2) (hc : r ≠ main_c) (hv : r ≠ main_call0_v0) (h3 : r ≠ main_v3) :
    W3 m d (dv r) = W2 m d (dv r) :=
  (StableHlo.binary_result_ne _ _ _ _ _ _ _ _ h3).trans <| (StableHlo.unary_result_ne _ _ _ _ _ _ hv).trans <|
    (StableHlo.nullary_result_ne _ _ _ _ hc).trans (StableHlo.unary_result_ne _ _ _ _ _ _ h2)

theorem W6_arg (d : Dev nD) {r : Ref sig .tc} (h : r ∉ ([main_v0, main_v1_0, main_v1_1, main_v2, main_c, main_call0_v0, main_v3, main_v4, main_v5, main_v6] : List (Ref sig .tc))) :
    W6 m d (dv r) = m ((SparseCore.T d).loc r) := by
  simp only [List.mem_cons, List.not_mem_nil, or_false, not_or] at h
  obtain ⟨h0, h1, h2, h3, h4, h5, h6, h7, h8, h9⟩ := h
  exact (put_ne _ _ h9).trans <| (put_ne _ _ h8).trans <| (put_ne _ _ h7).trans <| (W3_ne m d h3 h4 h5 h6).trans <|
    (W2_ne m d h1 h2).trans (W1_ne m d h0)

theorem W3_pad (d : Dev nD) : W3 m d (dv main_v3) = pad S4x8192 ![0, 0] ![1, 0] ![0, 0]
    (transpose S3x8192 [1, 0] (m ((SparseCore.T d).loc main_arg0)) transposes_S8192x3_S3x8192_1_0)
    (sitofp .f32 (constantI S_ 32 0#32)) pads_S3x8192_S4x8192_010_000 h_S_ := by
  have ex : opCvt.result (opC.result (opT2.result (W2 m d))) (dv main_v2)
      = transpose S3x8192 [1, 0] (m ((SparseCore.T d).loc main_arg0)) transposes_S8192x3_S3x8192_1_0 :=
    (StableHlo.unary_result_ne _ _ _ _ _ _ (by decide)).trans <| (StableHlo.nullary_result_ne _ _ _ _ (by decide)).trans <|
      (StableHlo.unary_result _ _ _ _ _ _).trans
        (congrArg (transpose S3x8192 [1, 0] · transposes_S8192x3_S3x8192_1_0) ((W2_ne m d (by decide) (by decide)).trans (W1_ne m d (by decide))))
  have ev : opCvt.result (opC.result (opT2.result (W2 m d))) (dv main_call0_v0) = sitofp .f32 (constantI S_ 32 0#32) :=
    (StableHlo.unary_result _ _ _ _ _ _).trans (congrArg (sitofp .f32) (StableHlo.nullary_result _ _ _ _))
  refine (StableHlo.binary_result _ _ _ _ _ _ _ _).trans ?_
  rw [ex, ev]

theorem W3_pk (d : Dev nD) : W3 m d (dv main_v1_0)
    = k0_pay2 (transpose S3x65536 [1, 0] (m ((SparseCore.T d).loc main_arg1)) transposes_S65536x3_S3x65536_1_0) :=
  (W3_ne m d (by decide) (by decide) (by decide) (by decide)).trans <| (put_ne _ _ (by decide)).trans <| (put_self _ _ _).trans
    (congrArg k0_pay2 (W1_v0 m d))

theorem W3_lanes (d : Dev nD) : W3 m d (dv main_v1_1)
    = k0_pay3 (transpose S3x65536 [1, 0] (m ((SparseCore.T d).loc main_arg1)) transposes_S65536x3_S3x65536_1_0) :=
  (W3_ne m d (by decide) (by decide) (by decide) (by decide)).trans <| (put_self _ _ _).trans (congrArg k0_pay3 (W1_v0 m d))

theorem W5_arg0 (d : Dev nD) : W5 m d (dv main_arg0) = m ((SparseCore.T d).loc main_arg0) :=
  (put_ne _ _ (by decide)).symm.trans (W6_arg m d (by decide))
theorem W4_arg0 (d : Dev nD) : W4 m d (dv main_arg0) = m ((SparseCore.T d).loc main_arg0) :=
  (put_ne _ _ (by decide)).symm.trans (W5_arg0 m d)

theorem W6_out (d : Dev nD) : W6 m d (dv main_v6) = out m d := by
  have e5 : W5 m d (dv main_v5) = searched (W4 m d (dv main_arg0)) (W4 m d (dv main_v1_1)) := put_self _ _ _
  have e4 : W5 m d (dv main_v4) = scOut (X m) (Pk m) d := (put_ne _ _ (by decide)).trans (put_self _ _ _)
  have e1 : W4 m d (dv main_v1_1) = W3 m d (dv main_v1_1) := put_ne _ _ (by decide)
  refine (put_self _ _ _).trans ?_
  rw [e5, e4, e1, W5_arg0, W4_arg0, W3_lanes, show X m = _ from funext (W3_pad m), show Pk m = _ from funext (W3_pk m)]
  rfl

/-- What is read off the final memory. -/
def fq (d : Dev nD) (s : Phys nD τ sig (Elt F)) : Prop :=
  s.mem.mem ((SparseCore.T d).loc main_arg0) = m ((SparseCore.T d).loc main_arg0)
    ∧ s.mem.mem ((SparseCore.T d).loc main_arg1) = m ((SparseCore.T d).loc main_arg1)
    ∧ s.mem.mem ((SparseCore.T d).loc main_v6) = out m d

theorem FIN_ends (d : Dev nD) : (FIN m d : sProp 𝕄)
    ⊢ iprop(((SparseCore.T d).loc main_arg0 ↦{fullShare} m ((SparseCore.T d).loc main_arg0))
      ∗ ((SparseCore.T d).loc main_arg1 ↦{fullShare} m ((SparseCore.T d).loc main_arg1)) ∗ (SparseCore.T d).loc main_v6 ↦{fullShare} out m d) := by
  rw [← W6_out, ← W6_arg m d (r := main_arg0) (by decide), ← W6_arg m d (r := main_arg1) (by decide)]
  unfold FIN
  rw [StableHlo.held_sub_split (T d) ends_sub (W6 m d)]
  refine BIBase.Entails.trans sep_elim_left ?_
  unfold StableHlo.held ends
  rw [SparseCore.bigSep_insert' (by decide), SparseCore.bigSep_insert' (by decide), bigSep_singleton]

set_option maxRecDepth 16384 in
theorem hfin (d : Dev nD) (s : Phys nD τ sig (Elt F)) : iprop(FIN m d ∗ SI s) ⊢ (⌜fq m d s⌝ : sProp 𝕄) := by
  iintro ⟨HF, HSI⟩
  ihave HF := (FIN_ends m d) $$ HF
  icases HF with ⟨H0, H1, H6⟩
  ihave H := (persistent_entails_right (SI_pointsTo_agree (st := s) (ℓ := (SparseCore.T d).loc main_arg0) (I := Finset.univ) (q := fullShare)
    (f := m ((SparseCore.T d).loc main_arg0)))) $$ [HSI H0]
  · isplitl [HSI] <;> iassumption
  icases H with ⟨%h0, HSI, -⟩
  ihave H := (persistent_entails_right (SI_pointsTo_agree (st := s) (ℓ := (SparseCore.T d).loc main_arg1) (I := Finset.univ) (q := fullShare)
    (f := m ((SparseCore.T d).loc main_arg1)))) $$ [HSI H1]
  · isplitl [HSI] <;> iassumption
  icases H with ⟨%h1, HSI, -⟩
  ihave H := (SI_pointsTo_agree (st := s) (ℓ := (SparseCore.T d).loc main_v6) (I := Finset.univ) (q := fullShare) (f := out m d)) $$ [HSI H6]
  · isplitl [HSI] <;> iassumption
  icases H with %h6
  ipureintro
  exact ⟨funext fun i => h0 i (Finset.mem_univ i), funext fun i => h1 i (Finset.mem_univ i), funext fun i => h6 i (Finset.mem_univ i)⟩

/-! ## The run -/

/-- The claim of the run: the arguments unchanged, the result `out`, every semaphore zero. -/
def QC : PUnit × MemSt nD τ sig (Elt F) → Prop := fun r =>
  (∀ c : Dev nD, r.2.mem ((SparseCore.T c).loc main_arg0) = m ((SparseCore.T c).loc main_arg0)
    ∧ r.2.mem ((SparseCore.T c).loc main_arg1) = m ((SparseCore.T c).loc main_arg1) ∧ r.2.mem ((SparseCore.T c).loc main_v6) = out m c)
    ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (X m) (Pk m) (U0 m)) (A := ∅) facts v₀
    (fun q hq => match q with | 0 => nomatch hq)
    (fun q _ => match q with | 0 => tileObl _ _ _)
    (fun q _ => match q with | 0 => SparseCore.Cfg.VecSplit.of_plain (vecSplit (X m) (Pk m) (U0 m)))
    m ρ main G (FIN m) (u₀ (F := F)) (sep_elim_left.trans (hu₀ m)) (hmain m ρ) (fq m) (hfin m) (QC m) (fun _ h hz => ⟨h, hz⟩)

end Cert.Proof.KI

end
-- ==== Proof.Frames.lean ====
/-
  Every program runs to its end, leaves its arguments as they were and every semaphore at zero.
-/
module

public import proofs.«01_k».proof.Defs
public import proofs.«01_k».proof.Proof.K.Launch
public import proofs.«01_k».proof.Proof.KI.Launch
public import proofs.«01_k».proof.Proof.Gen.ReferenceIdeal.Run

@[expose] public section

noncomputable section

namespace Cert.Proof

open Idealize.ShloMosaic Idealize.SL.Sem

theorem frame_kernel : Cert.quiescent_Kernel := fun m ρ _ =>
  (θ_run Cert.Kernel.defs _ _).mono (fun _ h => ⟨fun c => ⟨(h.1 c).1, (h.1 c).2.1⟩, h.2⟩) (K.run_main (F := Bits) m ρ)

/-- The run of the idealized kernel, its value dropped. -/
theorem ideal_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (Cert.KernelIdeal.threads (F := Ideal)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩) (KI.run_main (F := Ideal) m ρ)

theorem frame_ideal : Cert.quiescent_KernelIdeal := fun m ρ _ => ideal_run m ρ

/-- The run of the reference, its value dropped. -/
theorem reference_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

theorem frame_reference : Cert.quiescent_ReferenceIdeal := fun m ρ _ => reference_run m ρ

end Cert.Proof

end
-- ==== Proof.Extremum.lean ====
/-
  Greatest and least elements of families of extended reals, and the identity of real numbers behind the kernel: the
  least squared distance is the query's squared norm less twice the greatest `x·p − ½|p|²`.
-/
module

public import proofs.«01_k».proof.Proof.KI.Spec
public import Idealize.ShloMosaic.PureOps.Ideal

@[expose] public section

noncomputable section

namespace Cert.Proof

open Idealize.ShloMosaic

/-- The maximum of a family, folded from −∞, is its greatest member. -/
theorem fold_max_greatest {ι : Type} [Fintype ι] [Nonempty ι] (g : ι → EReal) :
    IsGreatest (Set.range g) ((Finset.univ : Finset ι).fold max ⊥ g) := by
  refine ⟨?_, ?_⟩
  · rcases (Finset.le_fold_max (s := (Finset.univ : Finset ι)) (f := g) (b := ⊥) ((Finset.univ : Finset ι).fold max ⊥ g)).1 le_rfl with h | ⟨x, _, h⟩
    · obtain ⟨x⟩ := ‹Nonempty ι›
      have hx : g x ≤ (Finset.univ : Finset ι).fold max ⊥ g := (Finset.le_fold_max _).2 (.inr ⟨x, Finset.mem_univ x, le_rfl⟩)
      exact ⟨x, le_antisymm hx (h.trans bot_le)⟩
    · exact ⟨x, le_antisymm ((Finset.le_fold_max _).2 (.inr ⟨x, Finset.mem_univ x, le_rfl⟩)) h⟩
  · rintro _ ⟨x, rfl⟩
    exact (Finset.le_fold_max _).2 (.inr ⟨x, Finset.mem_univ x, le_rfl⟩)

/-- The minimum of a family, folded from +∞, is its least member. -/
theorem fold_min_least {ι : Type} [Fintype ι] [Nonempty ι] (g : ι → EReal) :
    IsLeast (Set.range g) ((Finset.univ : Finset ι).fold min ⊤ g) := by
  refine ⟨?_, ?_⟩
  · rcases (Finset.fold_min_le (s := (Finset.univ : Finset ι)) (f := g) (b := ⊤) ((Finset.univ : Finset ι).fold min ⊤ g)).1 le_rfl with h | ⟨x, _, h⟩
    · obtain ⟨x⟩ := ‹Nonempty ι›
      have hx : (Finset.univ : Finset ι).fold min ⊤ g ≤ g x := (Finset.fold_min_le _).2 (.inr ⟨x, Finset.mem_univ x, le_rfl⟩)
      exact ⟨x, le_antisymm (le_top.trans h) hx⟩
    · exact ⟨x, le_antisymm h ((Finset.fold_min_le _).2 (.inr ⟨x, Finset.mem_univ x, le_rfl⟩))⟩
  · rintro _ ⟨x, rfl⟩
    exact (Finset.fold_min_le _).2 (.inr ⟨x, Finset.mem_univ x, le_rfl⟩)

/-- The greatest of a family of greatest elements is the greatest of the union. -/
theorem greatest_iUnion {ι : Type} {S : ι → Set EReal} {g : ι → EReal} {M : EReal} (hM : IsGreatest (Set.range g) M)
    (h : ∀ i, IsGreatest (S i) (g i)) : IsGreatest (⋃ i, S i) M := by
  obtain ⟨⟨i, rfl⟩, hub⟩ := hM
  refine ⟨Set.mem_iUnion.2 ⟨i, (h i).1⟩, ?_⟩
  intro y hy
  obtain ⟨j, hj⟩ := Set.mem_iUnion.1 hy
  exact ((h j).2 hj).trans (hub ⟨j, rfl⟩)

theorem word_bot : (Ideal.ofBits .f32 0xFF800000#32 : EReal) = ⊥ := by
  simp [Ideal.ofBits, Ideal.ieee]

theorem word_top : (Ideal.ofBits .f32 0x7F800000#32 : EReal) = ⊤ := by
  simp [Ideal.ofBits, Ideal.ieee]

theorem word_zero : (Ideal.ofBits .f32 0x00000000#32 : EReal) = 0 := by
  simp [Ideal.ofBits, Ideal.ieee]

theorem word_two : (Ideal.ofBits .f32 0x40000000#32 : EReal) = ((2 : ℝ) : EReal) := by
  simp [Ideal.ofBits, Ideal.ieee]
  rw [← EReal.coe_mul]
  exact congrArg Real.toEReal (by norm_num)

theorem word_half : (Ideal.ofBits .f32 0xBF000000#32 : EReal) = ((-(1 / 2) : ℝ) : EReal) := by
  simp [Ideal.ofBits, Ideal.ieee]
  rw [← EReal.coe_mul]
  exact congrArg Real.toEReal (by norm_num)

/-- The running maximum over the first `n` points is the greatest of their values. -/
theorem best_greatest (x : Fin 3 → EReal) (p : ℕ → Fin 4 → EReal) : ∀ n : ℕ, 0 < n →
    IsGreatest ((fun k => KI.uval (F := Ideal) x (p k)) '' Set.Iio n) (KI.best (F := Ideal) x p n)
  | 0, h => absurd h (lt_irrefl 0)
  | 1, _ => by
    have e : KI.best (F := Ideal) x p 1 = KI.uval (F := Ideal) x (p 0) := by
      show max (Ideal.ofBits .f32 0xFF800000#32) (KI.uval (F := Ideal) x (p 0)) = _
      rw [word_bot]; exact max_bot_left _
    rw [e]
    refine ⟨⟨0, Set.mem_Iio.2 Nat.one_pos, rfl⟩, ?_⟩
    rintro _ ⟨k, hk, rfl⟩
    have : k = 0 := by have := Set.mem_Iio.1 hk; omega
    rw [this]
  | n + 2, _ => by
    have ih := best_greatest x p (n + 1) (Nat.succ_pos n)
    have e : KI.best (F := Ideal) x p (n + 2) = max (KI.best (F := Ideal) x p (n + 1)) (KI.uval (F := Ideal) x (p (n + 1))) := rfl
    rw [e]
    have h := ih.union (isGreatest_singleton (a := KI.uval (F := Ideal) x (p (n + 1))))
    have hs : (fun k => KI.uval (F := Ideal) x (p k)) '' Set.Iio (n + 2)
        = ((fun k => KI.uval (F := Ideal) x (p k)) '' Set.Iio (n + 1)) ∪ {KI.uval (F := Ideal) x (p (n + 1))} := by
      ext y
      constructor
      · rintro ⟨k, hk, rfl⟩
        rcases Nat.lt_or_ge k (n + 1) with hk' | hk'
        · exact .inl ⟨k, Set.mem_Iio.2 hk', rfl⟩
        · have : k = n + 1 := by have := Set.mem_Iio.1 hk; omega
          subst this; exact .inr rfl
      · rintro (⟨k, hk, rfl⟩ | rfl)
        · exact ⟨k, Set.mem_Iio.2 (by have := Set.mem_Iio.1 hk; omega), rfl⟩
        · exact ⟨n + 1, Set.mem_Iio.2 (by omega), rfl⟩
    rw [hs]; exact h

/-- The columns of the first table by lanes of sixteen, and of the second by lanes of 128, are all the points. -/
theorem lanes_cover (f : ℕ → EReal) :
    (⋃ l : Fin 128, (fun k => f (16384 + (128 * k + l.val))) '' Set.Iio 384) ∪ (⋃ l : Fin 16, (fun k => f (16 * k + l.val)) '' Set.Iio 1024)
      = Set.range fun n : Fin 65536 => f n.val := by
  ext y
  constructor
  · rintro (h | h)
    · obtain ⟨l, k, hk, rfl⟩ := Set.mem_iUnion.1 h
      have hk := Set.mem_Iio.1 hk
      have := l.isLt
      exact ⟨⟨16384 + (128 * k + l.val), by omega⟩, rfl⟩
    · obtain ⟨l, k, hk, rfl⟩ := Set.mem_iUnion.1 h
      have hk := Set.mem_Iio.1 hk
      have := l.isLt
      exact ⟨⟨16 * k + l.val, by omega⟩, rfl⟩
  · rintro ⟨⟨n, hn⟩, rfl⟩
    rcases Nat.lt_or_ge n 16384 with h | h
    · refine .inr (Set.mem_iUnion.2 ⟨⟨n % 16, by omega⟩, n / 16, Set.mem_Iio.2 (by omega), ?_⟩)
      exact congrArg f (by show 16 * (n / 16) + n % 16 = n; omega)
    · refine .inl (Set.mem_iUnion.2 ⟨⟨(n - 16384) % 128, by omega⟩, (n - 16384) / 128, Set.mem_Iio.2 (by omega), ?_⟩)
      exact congrArg f (by show 16384 + (128 * ((n - 16384) / 128) + (n - 16384) % 128) = n; omega)

/-- A point's score for a query: `x·p − ½|p|²`, summed as the kernel sums it. -/
def score (x p : Fin 3 → EReal) : EReal :=
  x 0 * p 0 + (x 1 * p 1 + (x 2 * p 2 + ((-(1 / 2) : ℝ) : EReal) * ((p 0 * p 0 + p 1 * p 1) + p 2 * p 2)))

/-- The squared distance. -/
def dist2 (x p : Fin 3 → EReal) : EReal := ∑ c, (x c - p c) * (x c - p c)

theorem square_nonneg (a : EReal) : 0 ≤ a * a := by
  induction a with
  | bot => rw [EReal.bot_mul_bot]; exact le_top
  | top => rw [EReal.top_mul_top]; exact le_top
  | coe r => rw [← EReal.coe_mul]; exact EReal.coe_nonneg.2 (mul_self_nonneg r)

theorem square_ne_bot (a : EReal) : a * a ≠ ⊥ := fun h => absurd (h ▸ square_nonneg a) (not_le.2 EReal.bot_lt_zero)

theorem squares_nonneg (a b c : EReal) : 0 ≤ (a * a + b * b) + c * c :=
  add_nonneg (add_nonneg (square_nonneg a) (square_nonneg b)) (square_nonneg c)

/-- A real number, or a square that is +∞. -/
theorem real_or_square (a : EReal) : (∃ r : ℝ, a = (r : EReal)) ∨ a * a = ⊤ := by
  induction a with
  | bot => exact .inr EReal.bot_mul_bot
  | top => exact .inr EReal.top_mul_top
  | coe r => exact .inl ⟨r, rfl⟩

theorem squares_top (a b c : EReal) (h : a * a = ⊤ ∨ b * b = ⊤ ∨ c * c = ⊤) : (a * a + b * b) + c * c = ⊤ := by
  rcases h with h | h | h
  · rw [h, EReal.top_add_of_ne_bot (square_ne_bot b), EReal.top_add_of_ne_bot (square_ne_bot c)]
  · rw [h, EReal.add_top_of_ne_bot (square_ne_bot a), EReal.top_add_of_ne_bot (square_ne_bot c)]
  · rw [h, EReal.add_top_of_ne_bot]
    intro e
    exact absurd (e ▸ add_nonneg (square_nonneg a) (square_nonneg b)) (not_le.2 EReal.bot_lt_zero)

/-- A real number less a number whose square is +∞ is again such a number. -/
theorem sub_square_top (r : ℝ) (a : EReal) (h : a * a = ⊤) : ((r : EReal) - a) * ((r : EReal) - a) = ⊤ := by
  induction a with
  | bot => rw [EReal.coe_sub_bot]; exact EReal.top_mul_top
  | top => rw [EReal.sub_top]; exact EReal.bot_mul_bot
  | coe s => rw [← EReal.coe_mul] at h; exact absurd h (EReal.coe_ne_top _)

theorem dist2_nonneg (x p : Fin 3 → EReal) : 0 ≤ dist2 x p := by
  unfold dist2; rw [Fin.sum_univ_three]; exact squares_nonneg _ _ _

/-- The squared distance out of the score, for a real query and any point: a point with an infinite coordinate scores −∞ and is at distance +∞. -/
theorem dist2_score (x : Fin 3 → ℝ) (p : Fin 3 → EReal) :
    dist2 (fun c => (x c : EReal)) p = ((((x 0 * x 0 + x 1 * x 1) + x 2 * x 2 : ℝ)) : EReal) - ((2 : ℝ) : EReal) * score (fun c => (x c : EReal)) p := by
  have inf : (p 0 * p 0 = ⊤ ∨ p 1 * p 1 = ⊤ ∨ p 2 * p 2 = ⊤) →
      dist2 (fun c => (x c : EReal)) p = ((((x 0 * x 0 + x 1 * x 1) + x 2 * x 2 : ℝ)) : EReal) - ((2 : ℝ) : EReal) * score (fun c => (x c : EReal)) p := by
    intro h
    have hs : score (fun c => (x c : EReal)) p = ⊥ := by
      unfold score
      rw [squares_top _ _ _ h, EReal.coe_mul_top_of_neg (by norm_num), EReal.add_bot, EReal.add_bot, EReal.add_bot]
    have hd : dist2 (fun c => (x c : EReal)) p = ⊤ := by
      unfold dist2
      rw [Fin.sum_univ_three]
      refine squares_top _ _ _ ?_
      rcases h with h | h | h
      · exact .inl (sub_square_top _ _ h)
      · exact .inr (.inl (sub_square_top _ _ h))
      · exact .inr (.inr (sub_square_top _ _ h))
    rw [hs, hd, EReal.coe_mul_bot_of_pos (by norm_num), EReal.coe_sub_bot]
  rcases real_or_square (p 0) with ⟨a, ha⟩ | h
  · rcases real_or_square (p 1) with ⟨b, hb⟩ | h
    · rcases real_or_square (p 2) with ⟨c, hc⟩ | h
      · unfold dist2 score
        rw [Fin.sum_univ_three, ha, hb, hc]
        simp only [← EReal.coe_mul, ← EReal.coe_add, ← EReal.coe_sub]
        exact congrArg Real.toEReal (by ring)
      · exact inf (.inr (.inr h))
    · exact inf (.inr (.inl h))
  · exact inf (.inl h)

/-- The kernel's last step at a greatest score is the least squared distance. -/
theorem last_step (x : Fin 3 → ℝ) (p : Fin 65536 → Fin 3 → EReal) {M D : EReal} (hM : IsGreatest (Set.range fun n => score (fun c => (x c : EReal)) (p n)) M)
    (hD : IsLeast (Set.range fun n => dist2 (fun c => (x c : EReal)) (p n)) D) :
    max (((((x 0 : ℝ) : EReal) * ((x 0 : ℝ) : EReal) + ((x 1 : ℝ) : EReal) * ((x 1 : ℝ) : EReal)) + ((x 2 : ℝ) : EReal) * ((x 2 : ℝ) : EReal)) - ((2 : ℝ) : EReal) * M) 0 = D := by
  obtain ⟨⟨a, rfl⟩, ha⟩ := hM
  simp only [← EReal.coe_mul, ← EReal.coe_add]
  have e : IsLeast (Set.range fun n => dist2 (fun c => (x c : EReal)) (p n)) (dist2 (fun c => (x c : EReal)) (p a)) := by
    refine ⟨⟨a, rfl⟩, ?_⟩
    rintro _ ⟨n, rfl⟩
    show dist2 _ (p a) ≤ dist2 _ (p n)
    rw [dist2_score, dist2_score]
    exact EReal.sub_le_sub le_rfl (mul_le_mul_of_nonneg_left (ha ⟨n, rfl⟩) (EReal.coe_nonneg.2 (by norm_num)))
  rw [← dist2_score, ← e.unique hD]
  exact max_eq_left (dist2_nonneg _ _)

end Cert.Proof

end
-- ==== Proof.Finite.lean ====
/-
  What the precondition says: every coordinate of every query is a real number.
-/
module

public import proofs.«01_k».proof.Proof.Gen.Pre_finite
public import Idealize.ShloMosaic.PureOps.Ideal
public import Idealize.ShloMosaic.PureOps.Reduce
public import Idealize.ShloMosaic.Lib.ValueIdxCore
public import proofs.«01_k».proof.Proof.Extremum

@[expose] public section

noncomputable section

namespace Cert.Proof

open Idealize.ShloMosaic Idealize.ShloMosaic.ValueIdx

/-- A conjunction of bits that is one has every bit one. -/
theorem fold_andi_one {ι : Type} [DecidableEq ι] (f : ι → BitVec 1) (s : Finset ι) (h : s.fold IntOp.andi 1#1 f = 1#1) : ∀ i ∈ s, f i = 1#1 := by
  have key : ∀ a b : BitVec 1, IntOp.andi a b = 1#1 → a = 1#1 ∧ b = 1#1 := by decide
  induction s using Finset.induction_on with
  | empty => intro i hi; exact absurd hi (Finset.notMem_empty i)
  | insert a s ha ih =>
    rw [Finset.fold_insert ha] at h
    obtain ⟨h1, h2⟩ := key _ _ h
    intro i hi
    rcases Finset.mem_insert.1 hi with rfl | hi
    · exact h1
    · exact ih h2 i hi

/-- An extended real whose absolute value is below +∞ is a real number. -/
theorem real_of_abs (x : EReal) (h : Ideal.cmp .olt (max x (-x)) (Ideal.ofBits .f32 0x7F800000#32) = 1#1) : ∃ r : ℝ, x = (r : EReal) := by
  rw [word_top] at h
  have hlt : max x (-x) < ⊤ := by
    by_contra hc
    have : Ideal.cmp .olt (max x (-x)) ⊤ = 0#1 := by
      show BitVec.ofBool (decide (max x (-x) < ⊤)) = 0#1
      rw [decide_eq_false hc]; rfl
    rw [this] at h; exact absurd h (by decide)
  induction x with
  | bot => exact absurd hlt (by simp)
  | top => exact absurd hlt (by simp)
  | coe r => exact ⟨r, rfl⟩

/-- A conjunction over a whole array that is one has the bit one at every index. -/
theorem all_one {s : Shape} {axes : List (Fin s.rank)} (v : IVec s 1) (h : s.ReducesTo axes Cert.Pre_finite.S_) (hu : 0 < Cert.Pre_finite.S_.numel)
    (e : Host.reduce IntOp.andi v (constantI Cert.Pre_finite.S_ 1 1#1) h hu ix0 = 1#1) : ∀ i, v i = 1#1 := by
  classical
  rw [Host.reduce_eq_fold] at e
  intro i
  exact fold_andi_one v _ e i (Finset.mem_filter.2 ⟨Finset.mem_univ i, funext fun a => a.elim0⟩)

theorem finite_entries (x : FVec Ideal Cert.Pre_finite.S8192x3 .f32) (p : FVec Ideal Cert.Pre_finite.S65536x3 .f32)
    (h : Cert.Pre_finite.fn (F := Ideal) x p = fun _ => 1#1) : ∀ i, ∃ r : ℝ, x i = (r : EReal) := by
  have e := congrFun h ix0
  unfold Cert.Pre_finite.fn at e
  exact fun i => real_of_abs _ (all_one _ _ _ e i)

end Cert.Proof

end
-- ==== Proof.KernelValue.lean ====
/-
  The kernel's result element by element, over the extended reals.
-/
module

public import proofs.«01_k».proof.Proof.KI.Launch
public import proofs.«01_k».proof.Proof.Extremum
public import Idealize.ShloMosaic.PureOps.Ideal.Laws
public import Idealize.ShloMosaic.Lib.ValueIdx
public import Idealize.ShloMosaic.Lib.ValueLayoutCasts
public import Idealize.ShloMosaic.Lib.KernelVsHost

@[expose] public section

noncomputable section

namespace Cert.Proof

open Cert.KernelIdeal Cert.KernelIdeal.Gen
open Idealize.ShloMosaic Idealize.ShloMosaic.ValueIdx

/-! ## The packed points -/

theorem pay1_low (v : FVec Ideal S3x65536 .f32) (c : Fin 3) (n : Fin 65536) : k0_pay1 (F := Ideal) v (ix2 c.castSucc n) = v (ix2 c n) := by
  unfold k0_pay1
  refine (concatenate_pair_apply_left (t := S4x65536) (s₁ := S3x65536) (s₂ := S1x65536) (0 : Fin 2) _ _ _ (ix2 c.castSucc n) rfl (ix2 c n) ?_).trans ?_
  · intro b
    match b with
    | ⟨0, _⟩ => rfl
    | ⟨1, _⟩ => rfl
  · exact shapeCast_apply _ _ _ _ rfl

theorem row_apply (v : FVec Ideal S3x65536 .f32) (o : Fin 3) (h : S3x65536.Slices ![o.val, 0] S1x65536) (n : Fin 65536) :
    extractStridedSlice S1x65536 ![o.val, 0] (shapeCast S3x65536 v shapeCasts_S3x65536_S3x65536) h (ix2 0 n) = v (ix2 o n) := by
  refine (extractStridedSlice_apply _ _ _ _ (ix2 o n) ?_).trans (shapeCast_apply _ _ _ _ rfl)
  intro a
  match a with
  | ⟨0, _⟩ => rfl
  | ⟨1, _⟩ => exact (Nat.zero_add _).symm

theorem pay1_last (v : FVec Ideal S3x65536 .f32) (n : Fin 65536) :
    k0_pay1 (F := Ideal) v (ix2 3 n) = ((-(1 / 2) : ℝ) : EReal) * ((v (ix2 0 n) * v (ix2 0 n) + v (ix2 1 n) * v (ix2 1 n)) + v (ix2 2 n) * v (ix2 2 n)) := by
  unfold k0_pay1
  refine (concatenate_pair_apply_right (t := S4x65536) (s₁ := S3x65536) (s₂ := S1x65536) (0 : Fin 2) _ _ _ (ix2 3 n) rfl rfl (ix2 0 n) ?_ rfl).trans ?_
  · intro b hb
    match b with
    | ⟨0, _⟩ => exact absurd rfl hb
    | ⟨1, _⟩ => rfl
  · have h0 := row_apply v 0 slices_S3x65536_o0_0_S1x65536 n
    have h1 := row_apply v 1 slices_S3x65536_o1_0_S1x65536 n
    have h2 := row_apply v 2 slices_S3x65536_o2_0_S1x65536 n
    rw [← word_half]
    refine congrArg (fun t : EReal => Ideal.ofBits .f32 0xBF000000#32 * t) ?_
    rw [← h0, ← h1, ← h2]
    rfl

/-- Point `n`, packed. -/
def packed (p : FVec Ideal S65536x3 .f32) (n : ℕ) : Fin 4 → EReal := fun c =>
  k0_pay1 (F := Ideal) (transpose S3x65536 [1, 0] p transposes_S65536x3_S3x65536_1_0) (ix2 c (Fin.ofNat 65536 n))

theorem uval_packed (p : FVec Ideal S65536x3 .f32) (n : Fin 65536) (x : Fin 3 → EReal) :
    KI.uval (F := Ideal) x (packed p n.val) = score x (fun c => p (ix2 n c)) := by
  have hn : (Fin.ofNat 65536 n.val) = n := Fin.ext (Nat.mod_eq_of_lt n.isLt)
  have hv : ∀ c : Fin 3, (transpose S3x65536 [1, 0] p transposes_S65536x3_S3x65536_1_0) (ix2 c n) = p (ix2 n c) := fun c =>
    transpose_ix2_apply p _ c n
  have h0 : packed p n.val 0 = p (ix2 n 0) := by unfold packed; rw [hn]; exact (pay1_low _ 0 n).trans (hv 0)
  have h1 : packed p n.val 1 = p (ix2 n 1) := by unfold packed; rw [hn]; exact (pay1_low _ 1 n).trans (hv 1)
  have h2 : packed p n.val 2 = p (ix2 n 2) := by unfold packed; rw [hn]; exact (pay1_low _ 2 n).trans (hv 2)
  have h3 : packed p n.val 3 = ((-(1 / 2) : ℝ) : EReal) * ((p (ix2 n 0) * p (ix2 n 0) + p (ix2 n 1) * p (ix2 n 1)) + p (ix2 n 2) * p (ix2 n 2)) := by
    unfold packed; rw [hn]
    refine (pay1_last _ n).trans ?_
    rw [hv 0, hv 1, hv 2]
  show x 0 * packed p n.val 0 + (x 1 * packed p n.val 1 + (x 2 * packed p n.val 2 + packed p n.val 3)) = _
  rw [h0, h1, h2, h3]
  rfl

theorem lane_packed (p : FVec Ideal S65536x3 .f32) (l k : ℕ) (h : 16 * k + l < 16384) :
    KI.lanePts (F := Ideal) (k0_pay2 (transpose S3x65536 [1, 0] p transposes_S65536x3_S3x65536_1_0)) l k = packed p (16 * k + l) := by
  funext c
  unfold KI.lanePts KI.pt4 packed k0_pay2
  dsimp only
  refine extractStridedSlice_apply _ _ _ _ _ ?_
  intro a
  match a with
  | ⟨0, _⟩ => exact (Nat.zero_add _).symm
  | ⟨1, _⟩ =>
    show (16 * k + l) % 65536 = 0 + (16 * k + l) % 16384
    omega

theorem chunk_packed (p : FVec Ideal S65536x3 .f32) (s l k : ℕ) (h : 128 * k + l < 49152) :
    KI.chunkPts (F := Ideal) (k0_pay3 (transpose S3x65536 [1, 0] p transposes_S65536x3_S3x65536_1_0)) s l k = packed p (16384 + (128 * k + l)) := by
  funext c
  unfold KI.chunkPts packed k0_pay3
  dsimp only
  refine (broadcastTo_apply _ _ _ (ix3 c 0 (Fin.ofNat 49152 (128 * k + l))) ?_).trans ?_
  · intro a
    match a with
    | ⟨0, _⟩ => rfl
    | ⟨1, _⟩ => rfl
    | ⟨2, _⟩ => rfl
  refine (shapeCast_apply _ _ _ (ix3 c 0 (Fin.ofNat 49152 (128 * k + l))) rfl).trans ?_
  refine (shapeCast_apply _ _ _ (ix2 c (Fin.ofNat 49152 (128 * k + l))) ?_).trans ?_
  · rw [Shape.rowMajor_val_three, Shape.rowMajor_val_two]
    show c.val * 49152 + (128 * k + l) % 49152 = (c.val * 1 + 0) * 49152 + (128 * k + l) % 49152
    omega
  refine extractStridedSlice_apply _ _ _ _ _ ?_
  intro a
  match a with
  | ⟨0, _⟩ => exact (Nat.zero_add _).symm
  | ⟨1, _⟩ =>
    show (16384 + (128 * k + l)) % 65536 = 16384 + (128 * k + l) % 49152
    omega

/-! ## The queries -/

theorem pad_col (x : FVec Ideal S8192x3 .f32) (z : FVec Ideal S_ .f32) (q : Fin 8192) :
    KI.xcol (F := Ideal) (w := 8192) (pad S4x8192 ![0, 0] ![1, 0] ![0, 0] (transpose S3x8192 [1, 0] x transposes_S8192x3_S3x8192_1_0) z
      pads_S3x8192_S4x8192_010_000 h_S_) q.val = fun c => x (ix2 q c) := by
  funext c
  unfold KI.xcol KI.pt4
  refine (pad_apply_of_inside _ _ _ _ _ _ _ _ (ix2 c q) ?_).trans (transpose_ix2_apply x _ c q)
  intro a
  match a with
  | ⟨0, _⟩ => show c.val = 0 + c.val * (0 + 1); omega
  | ⟨1, _⟩ =>
    have := q.isLt
    show q.val % 8192 = 0 + q.val * (0 + 1); omega

/-! ## The reductions and the last step -/

theorem lift_row {a b : ℕ} (h : (⟨2, ![a, b]⟩ : Shape).Reduces [1] ⟨1, ![a]⟩) (r : Fin a) (l : Fin b) : h.lift (ix1 r) l = ix2 r l := by
  funext c
  match c with
  | ⟨0, _⟩ => exact Fin.ext rfl
  | ⟨1, _⟩ => exact Fin.ext rfl

theorem row_max {a b : ℕ} (v : FVec Ideal ⟨2, ![a, b]⟩ .f32) (h : (⟨2, ![a, b]⟩ : Shape).Reduces [1] ⟨1, ![a]⟩) (hφ : FKind.Formats .f32)
    (hacc : (0xFF800000#32 : BitVec 32) = FKind.maximumf.neutral .f32 hφ) (r : Fin a) :
    multiReduction .maximumf [1] ⟨1, ![a]⟩ v 0xFF800000#32 h hφ hacc (ix1 r) = (Finset.univ : Finset (Fin b)).fold max ⊥ (fun l => v (ix2 r l)) := by
  refine (Ideal.multiReduction_maximumf_single v _ h hφ hacc (ix1 r)).trans ?_
  rw [show (FloatOps.ofBits (F := Ideal) .f32 0xFF800000#32 : EReal) = ⊥ from word_bot]
  refine congrArg (fun f => (Finset.univ : Finset (Fin b)).fold max ⊥ f) ?_
  funext l
  exact congrArg v (lift_row h r l)

theorem pay10_apply (v : FVec Ideal S1024x128 .f32) (r : Fin 1024) :
    k2_pay10 (F := Ideal) v (ix2 r 0) = (Finset.univ : Finset (Fin 128)).fold max ⊥ (fun l => v (ix2 r l)) := by
  unfold k2_pay10
  dsimp only
  exact (shapeCast_a_a1_apply _ _ r 0).trans (row_max v _ _ _ r)

theorem col_apply (x : FVec Ideal S1024x3 .f32) (o : Fin 3) (h : S1024x3.Slices ![0, o.val] S1024x1) (r : Fin 1024) :
    shapeCast S1024 (extractStridedSlice S1024x1 ![0, o.val] x h) shapeCasts_S1024x1_S1024 (ix1 r) = x (ix2 r o) := by
  refine (shapeCast_apply _ _ _ (ix2 r 0) ?_).trans (extractStridedSlice_apply _ _ _ _ (ix2 r o) ?_)
  · rw [Shape.rowMajor_val_two, Shape.rowMajor_val_one]
    show r.val * 1 + 0 = r.val
    omega
  · intro a
    match a with
    | ⟨0, _⟩ => exact (Nat.zero_add _).symm
    | ⟨1, _⟩ => rfl

theorem last_apply (x : FVec Ideal S1024x3 .f32) (u : FVec Ideal S1024x1 .f32) (s : FVec Ideal S1024x16 .f32) (r : Fin 1024) :
    k3_pay1 (F := Ideal) x u s (ix2 r 0) = Ideal.sqrt (max (((x (ix2 r 0) * x (ix2 r 0) + x (ix2 r 1) * x (ix2 r 1)) + x (ix2 r 2) * x (ix2 r 2))
      - ((2 : ℝ) : EReal) * max (u (ix2 r 0)) ((Finset.univ : Finset (Fin 16)).fold max ⊥ (fun l => s (ix2 r l)))) 0) - Ideal.ofBits .f32 0x3D4CCCCD#32 := by
  have h0 := col_apply x 0 slices_S1024x3_o0_0_S1024x1 r
  have h1 := col_apply x 1 slices_S1024x3_o0_1_S1024x1 r
  have h2 := col_apply x 2 slices_S1024x3_o0_2_S1024x1 r
  have hu : shapeCast S1024 u shapeCasts_S1024x1_S1024 (ix1 r) = u (ix2 r 0) := shapeCast_apply _ _ _ (ix2 r 0) (by
    rw [Shape.rowMajor_val_two, Shape.rowMajor_val_one]
    show r.val * 1 + 0 = r.val
    omega)
  have hs : multiReduction (F := Ideal) .maximumf [1] S1024 (shapeCast S1024x16 s shapeCasts_S1024x16_S1024x16) 0xFF800000#32 reduces_S1024x16_S1024 (.inl rfl) rfl (ix1 r)
      = (Finset.univ : Finset (Fin 16)).fold max ⊥ (fun l => s (ix2 r l)) := by
    refine (row_max _ _ _ _ r).trans (congrArg (fun f => (Finset.univ : Finset (Fin 16)).fold max ⊥ f) (funext fun l => ?_))
    exact shapeCast_apply _ _ _ _ rfl
  unfold k3_pay1
  dsimp only
  refine (shapeCast_a_a1_apply _ _ r 0).trans ?_
  rw [← h0, ← h1, ← h2, ← hu, ← hs, ← word_two, ← word_zero]
  rfl

/-! ## The whole result -/

section Whole

variable (x : FVec Ideal S8192x3 .f32) (p : FVec Ideal S65536x3 .f32)

/-- The scores of query `q` against every point, as the kernel computes them. -/
def scoreAt (q : Fin 8192) (n : ℕ) : EReal := KI.uval (F := Ideal) (fun c => x (ix2 q c)) (packed p n)

/-- The SparseCore's table: one maximum for each query and lane, over the lane's points. -/
theorem sc_greatest (q : Fin 8192) (l : Fin 16) (z : FVec Ideal S_ .f32) :
    IsGreatest ((fun k => scoreAt x p q (16 * k + l.val)) '' Set.Iio 1024)
      (KI.tileMax (F := Ideal) (w := 8192) (pad S4x8192 ![0, 0] ![1, 0] ![0, 0] (transpose S3x8192 [1, 0] x transposes_S8192x3_S3x8192_1_0) z
        pads_S3x8192_S4x8192_010_000 h_S_) (k0_pay2 (transpose S3x65536 [1, 0] p transposes_S65536x3_S3x65536_1_0)) q.val l.val) := by
  unfold KI.tileMax
  rw [pad_col]
  have h := best_greatest (fun c => x (ix2 q c)) (KI.lanePts (F := Ideal) (k0_pay2 (transpose S3x65536 [1, 0] p transposes_S65536x3_S3x65536_1_0)) l.val) 1024 (by omega)
  rwa [show (fun k => KI.uval (F := Ideal) (fun c => x (ix2 q c)) (KI.lanePts (F := Ideal) (k0_pay2 (transpose S3x65536 [1, 0] p transposes_S65536x3_S3x65536_1_0)) l.val k)) '' Set.Iio 1024
      = (fun k => scoreAt x p q (16 * k + l.val)) '' Set.Iio 1024 from Set.image_congr fun k hk => by
    have hk : k < 1024 := hk
    have := l.isLt
    show KI.uval _ _ = _
    rw [lane_packed p l.val k (by omega)]; rfl] at h

/-- The TensorCore's table, for the query in row `r` of block `t`. -/
theorem tc_greatest (q : Fin 8192) (l : Fin 128) (y : FVec Ideal S1024x3 .f32) (r : Fin 1024) (hy : ∀ c, y (ix2 r c) = x (ix2 q c)) :
    IsGreatest ((fun k => scoreAt x p q (16384 + (128 * k + l.val))) '' Set.Iio 384)
      (KI.accTab (F := Ideal) y (k0_pay3 (transpose S3x65536 [1, 0] p transposes_S65536x3_S3x65536_1_0)) (ix2 r l)) := by
  have h := best_greatest (fun c => x (ix2 q c)) (KI.chunkPts (F := Ideal) (k0_pay3 (transpose S3x65536 [1, 0] p transposes_S65536x3_S3x65536_1_0)) (r.val % 8) l.val) 384 (by omega)
  rw [show (fun k => KI.uval (F := Ideal) (fun c => x (ix2 q c)) (KI.chunkPts (F := Ideal) (k0_pay3 (transpose S3x65536 [1, 0] p transposes_S65536x3_S3x65536_1_0)) (r.val % 8) l.val k)) '' Set.Iio 384
      = (fun k => scoreAt x p q (16384 + (128 * k + l.val))) '' Set.Iio 384 from Set.image_congr fun k hk => by
    have hk : k < 384 := hk
    have := l.isLt
    show KI.uval _ _ = _
    rw [chunk_packed p (r.val % 8) l.val k (by omega)]; rfl] at h
  rw [show (fun c => x (ix2 q c)) = fun c => y (ix2 r c) from funext fun c => (hy c).symm] at h
  exact h

theorem rowBlk_row {w : ℕ} (f : FVec Ideal ⟨2, ![8192, w]⟩ .f32) (q : Fin 8192) (c : Fin w) :
    KI.rowBlk (F := Ideal) f (q.val / 1024) (ix2 (Fin.ofNat 1024 q.val) c) = f (ix2 q c) := by
  have hq := q.isLt
  show f (ix2 (Fin.ofNat 8192 (1024 * (q.val / 1024) + q.val % 1024)) c) = _
  rw [show Fin.ofNat 8192 (1024 * (q.val / 1024) + q.val % 1024) = q from Fin.ext (by show _ % 8192 = _; omega)]

/-- What the combining step leaves for query `q`, when its coordinates are real numbers and `D` is the least squared distance. -/
theorem combined_apply (q : Fin 8192) (s : FVec Ideal S8192x16 .f32) (X : Fin 3 → ℝ) (hx : ∀ c, x (ix2 q c) = (X c : EReal))
    (hs : ∀ l : Fin 16, IsGreatest ((fun k => scoreAt x p q (16 * k + l.val)) '' Set.Iio 1024) (s (ix2 q l)))
    {D : EReal} (hD : IsLeast (Set.range fun n => dist2 (fun c => (X c : EReal)) (fun c => p (ix2 n c))) D) :
    KI.combined (F := Ideal) x (KI.searched (F := Ideal) x (k0_pay3 (transpose S3x65536 [1, 0] p transposes_S65536x3_S3x65536_1_0))) s (ix2 q 0)
      = Ideal.sqrt D - Ideal.ofBits .f32 0x3D4CCCCD#32 := by
  have hq := q.isLt
  refine (last_apply _ _ _ (Fin.ofNat 1024 q.val)).trans ?_
  rw [show KI.rowBlk (F := Ideal) (KI.searched (F := Ideal) x (k0_pay3 (transpose S3x65536 [1, 0] p transposes_S65536x3_S3x65536_1_0))) (q.val / 1024)
      = k2_pay10 (KI.accTab (F := Ideal) (KI.rowBlk (F := Ideal) x (q.val / 1024)) (k0_pay3 (transpose S3x65536 [1, 0] p transposes_S65536x3_S3x65536_1_0)))
    from KI.rowBlk_byBlocks _ _ (by omega)]
  rw [pay10_apply]
  simp only [rowBlk_row]
  have ht := greatest_iUnion (fold_max_greatest fun l : Fin 128 => KI.accTab (F := Ideal) (KI.rowBlk (F := Ideal) x (q.val / 1024))
      (k0_pay3 (transpose S3x65536 [1, 0] p transposes_S65536x3_S3x65536_1_0)) (ix2 (Fin.ofNat 1024 q.val) l))
    fun l => tc_greatest x p q l _ _ fun c => rowBlk_row x q c
  have hu := ht.union (greatest_iUnion (fold_max_greatest fun l : Fin 16 => s (ix2 q l)) hs)
  rw [lanes_cover (scoreAt x p q)] at hu
  rw [show (fun n : Fin 65536 => scoreAt x p q n.val) = fun n => score (fun c => (X c : EReal)) (fun c => p (ix2 n c)) from
    funext fun n => (uval_packed p n _).trans (congrArg (fun y => score y (fun c => p (ix2 n c))) (funext hx))] at hu
  rw [hx 0, hx 1, hx 2]
  exact congrArg (fun y => Ideal.sqrt y - Ideal.ofBits .f32 0x3D4CCCCD#32) (last_step X (fun n c => p (ix2 n c)) hu hD)

end Whole

theorem scOut_apply (X : (d : Dev nD) → Buf (Elt Ideal) (KI.xtLoc d)) (Pk : (d : Dev nD) → Buf (Elt Ideal) (KI.opLoc d)) (d : Dev nD) (q : Fin 8192) (l : Fin 16) :
    (KI.scOut (F := Ideal) X Pk d : FVec Ideal S8192x16 .f32) (ix2 q l) = KI.tileMax (F := Ideal) (w := 8192) (X d) (Pk d) q.val l.val := rfl

/-- The kernel's result at query `q`. -/
theorem out_apply (m : (ℓ : Loc nD τ sig) → Buf (Elt Ideal) ℓ) (d : Dev nD) (q : Fin 8192) (X : Fin 3 → ℝ)
    (hx : ∀ c, (m ((SparseCore.T d).loc main_arg0) : FVec Ideal S8192x3 .f32) (ix2 q c) = (X c : EReal))
    {D : EReal} (hD : IsLeast (Set.range fun n : Fin 65536 => dist2 (fun c => (X c : EReal)) (fun c => (m ((SparseCore.T d).loc main_arg1) : FVec Ideal S65536x3 .f32) (ix2 n c))) D) :
    KI.out (F := Ideal) m d (ix2 q 0) = Ideal.sqrt D - Ideal.ofBits .f32 0x3D4CCCCD#32 := by
  unfold KI.out
  refine combined_apply _ _ q _ X hx (fun l => ?_) hD
  rw [scOut_apply]
  exact sc_greatest _ _ q l _

end Cert.Proof

end
-- ==== Proof.RefValue.lean ====
/-
  The reference's result element by element, over the extended reals.
-/
module

public import proofs.«01_k».proof.Proof.Gen.ReferenceIdeal.Run
public import proofs.«01_k».proof.Proof.Extremum
public import Idealize.ShloMosaic.PureOps.Ideal.Laws
public import Idealize.ShloMosaic.Lib.ValueIdx
public import Idealize.ShloMosaic.Lib.IdealHost
public import Idealize.ShloMosaic.Lib.WordCmp
public import Idealize.ShloMosaic.Lib.ValueLayoutCasts
public import Idealize.ShloMosaic.Lib.Pointwise.ShapeOpsCore

@[expose] public section

noncomputable section

namespace Cert.Proof.RI

open Cert.ReferenceIdeal Cert.ReferenceIdeal.Gen Cert.ReferenceIdeal.Value
open Idealize.ShloMosaic hiding ix0 ix1 ix2 ix3 ix4
open Idealize.ShloMosaic.TcCoe Idealize.ShloMosaic.Tactic Idealize.ShloMosaic.StableHlo Idealize.ShloMosaic.ValueIdx Idealize.ShloMosaic.WordCmp

/-! ## One trip -/

/-- The least squared distance of a row of a block to the points, as the reference folds it. -/
def rowMin (y : FVec Ideal S1024x65536x3 .f32) (r : Fin 1024) : EReal :=
  (Finset.univ : Finset (Fin 65536)).fold min ⊤ fun n => 0 + ∑ c : Fin 3, y (ix3 r n c) * y (ix3 r n c)

theorem reduced (y : FVec Ideal S1024x65536x3 .f32) (r : Fin 1024) :
    Host.reduce FloatOps.minimumf (Host.reduceAdd (mulf y y) (constant (F := Ideal) S_ .f32 0x00000000#32) reducesTo_S1024x65536x3_S1024x65536_d2 h_S_)
      (constant (F := Ideal) S_ .f32 0x7F800000#32) reducesTo_S1024x65536_S1024_d1 h_S_ (ix1 r) = rowMin y r := by
  have h1 : S1024x65536.Reduces [1] S1024 := by decide
  have h2 : S1024x65536x3.Reduces [2] S1024x65536 := by decide
  refine (Host.reduce_eq_fold_single FloatOps.minimumf _ _ _ h1 _ _).trans ?_
  unfold rowMin
  rw [← word_top]
  refine congrArg (fun f => (Finset.univ : Finset (Fin 65536)).fold min (Ideal.ofBits .f32 0x7F800000#32) f) ?_
  funext n
  refine (hostReduceAdd_apply _ _ _ _ _).trans ((Ideal.hostReduceAdd_single _ h2 _ _ _).trans ?_)
  rw [← word_zero]
  refine congrArg (fun t : EReal => Ideal.ofBits .f32 0x00000000#32 + t) (Finset.sum_congr rfl fun c _ => ?_)
  rw [show h2.lift (h1.lift (ix1 r) n) c = ix3 r n c by
    funext a
    match a with
    | ⟨0, _⟩ => exact Fin.ext rfl
    | ⟨1, _⟩ => exact Fin.ext rfl
    | ⟨2, _⟩ => exact Fin.ext rfl]
  rfl

theorem block_slice (x : S8x1024x3.Idx → EReal) (start : Fin S8x1024x3.rank → Int) (h : S8x1024x3.Slices (fun _ => 0) S1x1024x3) (k : Fin 8)
    (e0 : start (0 : Fin 3) = (k.val : ℤ)) (e1 : start (1 : Fin 3) = 0) (e2 : start (2 : Fin 3) = 0) (r : Fin 1024) (c : Fin 3) :
    Host.dynamicSlice S1x1024x3 x start h (ix3 0 r c) = x (ix3 k r c) := by
  have hk := k.isLt
  have hs : S8x1024x3.Slices ![k.val, 0, 0] S1x1024x3 := ⟨rfl, fun a => by
    match a with
    | ⟨0, _⟩ => show k.val + 1 ≤ 8; omega
    | ⟨1, _⟩ => show 0 + 1024 ≤ 1024; omega
    | ⟨2, _⟩ => show 0 + 3 ≤ 3; omega⟩
  rw [dynamicSlice_eq_extract S1x1024x3 x start h ![k.val, 0, 0] hs fun a => by
    match a with
    | ⟨0, _⟩ => exact e0
    | ⟨1, _⟩ => exact e1
    | ⟨2, _⟩ => exact e2]
  refine extractStridedSlice_apply _ _ _ _ _ ?_
  intro a
  match a with
  | ⟨0, _⟩ => exact (Nat.add_zero _).symm
  | ⟨1, _⟩ => exact (Nat.zero_add _).symm
  | ⟨2, _⟩ => exact (Nat.zero_add _).symm

theorem row_update (x : S8x1024.Idx → EReal) (u : S1x1024.Idx → EReal) (start : Fin S8x1024.rank → Int) (h : S8x1024.Slices (fun _ => 0) S1x1024) (k : Fin 8)
    (e0 : start (0 : Fin 2) = (k.val : ℤ)) (e1 : start (1 : Fin 2) = 0) (t : Fin 8) (r : Fin 1024) :
    Host.dynamicUpdateSlice x u start h (ix2 t r) = if t = k then u (ix2 0 r) else x (ix2 t r) := by
  have hk := k.isLt
  have hs : S8x1024.Slices ![k.val, 0] S1x1024 := ⟨rfl, fun a => by
    match a with
    | ⟨0, _⟩ => show k.val + 1 ≤ 8; omega
    | ⟨1, _⟩ => show 0 + 1024 ≤ 1024; omega⟩
  rw [dynamicUpdateSlice_eq_update x u start h ![k.val, 0] hs fun a => by
    match a with
    | ⟨0, _⟩ => exact e0
    | ⟨1, _⟩ => exact e1]
  rw [updateSlice_apply]
  by_cases e : t = k
  · subst e
    rw [if_pos rfl, dif_pos]
    · refine congrArg u ?_
      funext b
      match b with
      | ⟨0, _⟩ => exact Fin.ext (Nat.sub_self _)
      | ⟨1, _⟩ => exact Fin.ext (Nat.sub_zero _)
    · intro a
      match a with
      | ⟨0, _⟩ => exact ⟨le_refl _, Nat.lt_succ_self _⟩
      | ⟨1, _⟩ => exact ⟨Nat.zero_le _, by have := r.isLt; show r.val < 0 + 1024; omega⟩
  · rw [if_neg e, dif_neg]
    intro hin
    have : k.val ≤ t.val ∧ t.val < k.val + 1 := hin (0 : Fin 2)
    exact e (Fin.ext (by omega))

theorem table_cast (x : S8x1024.Idx → EReal) (q : Fin 8192) :
    shapeCast S8192x1 x shapeCasts_S8x1024_S8192x1 (ix2 q 0)
      = x (ix2 (⟨q.val / 1024, by have := q.isLt; omega⟩ : Fin 8) (⟨q.val % 1024, Nat.mod_lt _ (by omega)⟩ : Fin 1024)) := by
  have hq := q.isLt
  refine shapeCast_apply _ _ _ _ ?_
  rw [Shape.rowMajor_val_two, Shape.rowMajor_val_two]
  show q.val / 1024 * 1024 + q.val % 1024 = q.val * 1 + 0
  omega

variable (V0 : Valuation τ sig (Elt Ideal))

/-- The queries in their eight blocks, the points and the table, out of the buffers' contents. -/
abbrev queries : S8x1024x3.Idx → EReal := V0 (Proc.devRef .tc main_v2_0)
abbrev points : S65536x3.Idx → EReal := V0 (Proc.devRef .tc main_v2_1)
abbrev table : S8x1024.Idx → EReal := V0 (Proc.devRef .tc main_v2_3)
abbrev diffs : S1024x65536x3.Idx → EReal := res_main_while0b_v12 V0

/-- The counter at `k`. -/
abbrev At (k : ℕ) : Prop := V0 (Proc.devRef .tc main_v2_2) = fun _ => BitVec.ofNat 32 k

theorem small_toInt (k : ℕ) (hk : k < 8) : (BitVec.ofNat 32 k).toInt = (k : ℤ) := by
  interval_cases k <;> rfl

/-- The differences of a trip: row `r` of block `k` less every point. -/
theorem diff_apply (k : Fin 8) (h : At V0 k.val) (r : Fin 1024) (n : Fin 65536) (c : Fin 3) :
    diffs V0 (ix3 r n c) = queries V0 (ix3 k r c) - points V0 (ix2 n c) := by
  unfold diffs res_main_while0b_v12
  refine congrArg₂ (fun a b : EReal => a - b) ?_ ?_
  · refine (broadcastInDim_apply _ _ _ _ (ix3 r 0 c) ?_).trans ((broadcastInDim_apply _ _ _ _ (ix2 r c) ?_).trans ((shapeCast_1ab_ab_apply _ _ r c).trans ?_))
    · intro a
      match a with
      | ⟨0, _⟩ => rfl
      | ⟨1, _⟩ => rfl
      | ⟨2, _⟩ => rfl
    · intro a
      match a with
      | ⟨0, _⟩ => rfl
      | ⟨1, _⟩ => rfl
    · refine block_slice _ _ _ k ?_ rfl rfl r c
      show BitVec.toInt (V0 (Proc.devRef .tc main_v2_2) (Shape.Idx.first h_S_)) = _
      rw [h]
      exact small_toInt k.val k.isLt
  · refine (broadcastInDim_apply _ _ _ _ (ix3 0 n c) ?_).trans (broadcastInDim_apply _ _ _ _ (ix2 n c) ?_)
    · intro a
      match a with
      | ⟨0, _⟩ => rfl
      | ⟨1, _⟩ => rfl
      | ⟨2, _⟩ => rfl
    · intro a
      match a with
      | ⟨0, _⟩ => rfl
      | ⟨1, _⟩ => rfl

/-- A trip writes the block's row of the table and keeps the others. -/
theorem trip_apply (k : Fin 8) (h : At V0 k.val) (t : Fin 8) (r : Fin 1024) :
    (step_main_v2_3 V0 : S8x1024.Idx → EReal) (ix2 t r) = if t = k then rowMin (diffs V0) r else table V0 (ix2 t r) := by
  unfold step_main_v2_3
  rw [id_eq]
  refine (row_update _ _ _ _ k ?_ rfl t r).trans ?_
  · show BitVec.toInt (V0 (Proc.devRef .tc main_v2_2) (Shape.Idx.first h_S_)) = _
    rw [h]
    exact small_toInt k.val k.isLt
  · refine if_congr Iff.rfl ((broadcastInDim_apply _ _ _ _ (ix1 r) ?_).trans (reduced _ r)) rfl
    intro a
    match a with
    | ⟨0, _⟩ => rfl

/-! ## The eight trips -/

variable (m : (ℓ : Loc nD τ sig) → Buf (Elt Ideal) ℓ)

/-- The contents before trip `k`. -/
abbrev before (c : Dev nD) (k : ℕ) : Valuation τ sig (Elt Ideal) := STEP^[k] (entryContents preI m c)

theorem queries_entry (c : Dev nD) : entryContents preI m c (Proc.devRef .tc main_v2_0)
    = shapeCast S8x1024x3 (m ((c.tc : Thread nD τ).loc main_arg0)) shapeCasts_S8192x3_S8x1024x3 := by
  simp only [entryContents, afterL_cons, afterL_nil]
  after_reads_simp
  rfl

theorem points_entry (c : Dev nD) : entryContents preI m c (Proc.devRef .tc main_v2_1) = m ((c.tc : Thread nD τ).loc main_arg1) := by
  simp only [entryContents, afterL_cons, afterL_nil]
  after_reads_simp
  rfl

theorem before_queries (c : Dev nD) (k : ℕ) : before m c k (Proc.devRef .tc main_v2_0)
    = shapeCast S8x1024x3 (m ((c.tc : Thread nD τ).loc main_arg0)) shapeCasts_S8192x3_S8x1024x3 := by
  induction k with
  | zero => exact queries_entry m c
  | succ k ih => rw [before, Function.iterate_succ_apply', STEP_main_v2_0]; exact ih

theorem before_points (c : Dev nD) (k : ℕ) : before m c k (Proc.devRef .tc main_v2_1) = m ((c.tc : Thread nD τ).loc main_arg1) := by
  induction k with
  | zero => exact points_entry m c
  | succ k ih => rw [before, Function.iterate_succ_apply', STEP_main_v2_1]; exact ih

theorem before_counter (c : Dev nD) (k : ℕ) : At (before m c k) k := by
  induction k with
  | zero => exact ctr_entry m c
  | succ k ih =>
    rw [At, before, Function.iterate_succ_apply', STEP_main_v2_2]
    unfold step_main_v2_2
    rw [id_eq]
    funext j
    have e := congrFun ih j
    refine (congrArg (fun a : BitVec 32 => IntOp.addi a 1#32) e).trans ?_
    exact (BitVec.ofNat_add k 1).symm

/-- Before trip `k` the rows below `k` hold their blocks' minima. -/
theorem before_table (c : Dev nD) (k : ℕ) (hk : k ≤ 8) (t : Fin 8) (ht : t.val < k) (r : Fin 1024) :
    table (before m c k) (ix2 t r) = rowMin (diffs (before m c t.val)) r := by
  induction k with
  | zero => exact absurd ht (Nat.not_lt_zero _)
  | succ k ih =>
    rw [table, before, Function.iterate_succ_apply', STEP_main_v2_3]
    refine (trip_apply (before m c k) ⟨k, by omega⟩ (before_counter m c k) t r).trans ?_
    by_cases e : t.val = k
    · rw [if_pos (Fin.ext e), e]
    · rw [if_neg fun h => e (congrArg Fin.val h)]
      exact ih (by omega) (by omega)

/-- The two arguments. -/
abbrev arg0 (c : Dev nD) : S8192x3.Idx → EReal := m ((c.tc : Thread nD τ).loc main_arg0)
abbrev arg1 (c : Dev nD) : S65536x3.Idx → EReal := m ((c.tc : Thread nD τ).loc main_arg1)

theorem before_diffs (c : Dev nD) (q : Fin 8192) (n : Fin 65536) (a : Fin 3) :
    diffs (before m c (q.val / 1024)) (ix3 (⟨q.val % 1024, Nat.mod_lt _ (by omega)⟩ : Fin 1024) n a) = arg0 m c (ix2 q a) - arg1 m c (ix2 n a) := by
  have hq := q.isLt
  refine (diff_apply _ ⟨q.val / 1024, by omega⟩ (before_counter m c _) _ n a).trans ?_
  rw [queries, points, before_queries, before_points]
  refine congrArg (fun y : EReal => y - arg1 m c (ix2 n a)) (shapeCast_apply _ _ _ (ix2 q a) ?_)
  rw [Shape.rowMajor_val_two, Shape.rowMajor_val_three]
  show q.val * 3 + a.val = (q.val / 1024 * 1024 + q.val % 1024) * 3 + a.val
  omega

/-- The result out of the table. -/
theorem result_apply (q : Fin 8192) :
    (out_main_v6 V0 : S8192x1.Idx → EReal) (ix2 q 0)
      = Ideal.sqrt (table V0 (ix2 (⟨q.val / 1024, by have := q.isLt; omega⟩ : Fin 8) (⟨q.val % 1024, Nat.mod_lt _ (by omega)⟩ : Fin 1024)))
        - Ideal.ofBits .f32 0x3D4CCCCD#32 := by
  unfold out_main_v6
  exact congrArg (fun y => Ideal.sqrt y - Ideal.ofBits .f32 0x3D4CCCCD#32) (table_cast (table V0) q)

/-- The squared differences of a row summed. -/
theorem rowMin_eq (y : FVec Ideal S1024x65536x3 .f32) (r : Fin 1024) (X : Fin 3 → EReal) (P : Fin 65536 → Fin 3 → EReal)
    (h : ∀ n a, (y : S1024x65536x3.Idx → EReal) (ix3 r n a) = X a - P n a) :
    rowMin y r = (Finset.univ : Finset (Fin 65536)).fold min ⊤ fun n => dist2 X (P n) := by
  unfold rowMin
  refine congrArg (fun f => (Finset.univ : Finset (Fin 65536)).fold min ⊤ f) (funext fun n => ?_)
  rw [zero_add]
  exact Finset.sum_congr rfl fun a _ => by rw [h n a]

/-- The reference's result at query `q`. -/
theorem ref_apply (c : Dev nD) (q : Fin 8192) :
    (out_main_v6 (before m c 8) : S8192x1.Idx → EReal) (ix2 q 0)
      = Ideal.sqrt ((Finset.univ : Finset (Fin 65536)).fold min ⊤ fun n => dist2 (fun a => arg0 m c (ix2 q a)) (fun a => arg1 m c (ix2 n a)))
        - Ideal.ofBits .f32 0x3D4CCCCD#32 := by
  refine (result_apply _ q).trans (congrArg (fun y => Ideal.sqrt y - Ideal.ofBits .f32 0x3D4CCCCD#32) ?_)
  refine (before_table m c 8 le_rfl _ (by have := q.isLt; show q.val / 1024 < 8; omega) _).trans ?_
  exact rowMin_eq _ _ _ (fun n a => arg1 m c (ix2 n a)) fun n a => before_diffs m c q n a

end Cert.Proof.RI

end
-- ==== Proof.Algebraic.lean ====
/-
  The kernel and the reference end with the same distances over the extended reals, for queries whose coordinates are real numbers.
-/
module

public import proofs.«01_k».proof.Defs
public import proofs.«01_k».proof.Proof.Frames
public import proofs.«01_k».proof.Proof.Finite
public import proofs.«01_k».proof.Proof.KernelValue
public import proofs.«01_k».proof.Proof.RefValue

@[expose] public section

noncomputable section

namespace Cert.Proof

open Idealize.ShloMosaic Idealize.SL.Sem

theorem frame_ideal_finite : Cert.quiescent_KernelIdeal_pre_finite := fun m ρ _ => ideal_run m ρ

theorem frame_reference_finite : Cert.quiescent_ReferenceIdeal_pre_finite := fun m ρ _ => reference_run m ρ

/-- One query: the two results there are equal. -/
theorem same_at (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (x : FVec Ideal Cert.KernelIdeal.S8192x3 .f32) (p : FVec Ideal Cert.KernelIdeal.S65536x3 .f32) (hx : ∀ i, ∃ r : ℝ, x i = (r : EReal))
    (k0 : m ((SparseCore.T c).loc Cert.KernelIdeal.main_arg0) = x) (k1 : m ((SparseCore.T c).loc Cert.KernelIdeal.main_arg1) = p)
    (r0 : RI.arg0 m' c = x) (r1 : RI.arg1 m' c = p) (q : Fin 8192) :
    KI.out (F := Ideal) m c (ValueIdx.ix2 q 0)
      = (Cert.ReferenceIdeal.Value.out_main_v6 (RI.before m' c 8) : Cert.ReferenceIdeal.S8192x1.Idx → EReal) (ValueIdx.ix2 q 0) := by
  choose X hX using fun a : Fin 3 => hx (ValueIdx.ix2 q a)
  have hr := RI.ref_apply m' c q
  rw [r0, r1, show (fun a : Fin 3 => x (ValueIdx.ix2 q a)) = fun a => (X a : EReal) from funext hX] at hr
  refine (out_apply m c q X (fun a => ?_) ?_).trans hr.symm
  · rw [k0]; exact hX a
  · rw [k1]; exact fold_min_least fun n : Fin 65536 => dist2 (fun a => (X a : EReal)) (fun a => p (ValueIdx.ix2 n a))

/-- The two results of one device. -/
theorem same_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (x : FVec Ideal Cert.KernelIdeal.S8192x3 .f32) (p : FVec Ideal Cert.KernelIdeal.S65536x3 .f32) (hx : ∀ i, ∃ r : ℝ, x i = (r : EReal))
    (k0 : m ((SparseCore.T c).loc Cert.KernelIdeal.main_arg0) = x) (k1 : m ((SparseCore.T c).loc Cert.KernelIdeal.main_arg1) = p)
    (r0 : RI.arg0 m' c = x) (r1 : RI.arg1 m' c = p) :
    (Cert.ReferenceIdeal.Value.out_main_v6 (RI.before m' c 8) : Cert.ReferenceIdeal.S8192x1.Idx → EReal) = KI.out (F := Ideal) m c := by
  funext j
  have hj : j = ValueIdx.ix2 (j 0) (0 : Fin 1) := by
    funext a
    match a with
    | ⟨0, _⟩ => rfl
    | ⟨1, _⟩ => exact Subsingleton.elim (α := Fin 1) _ _
  rw [hj]
  exact (same_at m m' c x p hx k0 k1 r0 r1 (j 0)).symm

theorem algebraic : Cert.algebraic_KernelIdeal_ReferenceIdeal_pre_finite := by
  intro m g m' g' hpre hargs
  refine ⟨fun c => KI.out (F := Ideal) m c, ?_, ?_⟩
  · exact (θ_run Cert.KernelIdeal.defs _ _).mono (fun _ h c => ⟨(h.1 c).2.2, (h.1 c).1, (h.1 c).2.1⟩) (KI.run_main (F := Ideal) m g)
  · refine (θ_run Cert.ReferenceIdeal.defs _ _).mono (fun r h c => ⟨(h c).1.trans ?_, (h c).2⟩) (Cert.ReferenceIdeal.Value.run (F := Ideal) m' g')
    exact same_result m m' c _ _ (finite_entries _ _ (hpre c)) rfl rfl (hargs c).1 (hargs c).2

end Cert.Proof

end
-- ==== Proof.lean ====
module

public import proofs.«01_k».proof.Defs
public import proofs.«01_k».proof.Proof.Frames
public import proofs.«01_k».proof.Proof.Algebraic
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite

@[expose] public section

noncomputable section

namespace Cert.Proof

theorem claim : Cert.Claim :=
  ⟨Cert.Kernel.Gen.facts, Cert.KernelIdeal.Gen.facts, Cert.ReferenceIdeal.Gen.facts, Cert.Pre_finite.Gen.facts,
    frame_kernel, frame_ideal, frame_ideal_finite, frame_reference, frame_reference_finite, trivial, algebraic⟩

end Cert.Proof

end
